-- ==== Defs.lean ====
def Pre_KernelIdeal (m : (ℓ : Loc Cert.KernelIdeal.nD Cert.KernelIdeal.τ Cert.KernelIdeal.sig) → Buf (Elt Ideal) ℓ) : Prop :=
  True

def Pre_KernelIdeal_bias_finite [hPre_bias_finite : Cert.Pre_bias_finite.Facts] (m : (ℓ : Loc Cert.KernelIdeal.nD Cert.KernelIdeal.τ Cert.KernelIdeal.sig) → Buf (Elt Ideal) ℓ) : Prop :=
  ∀ c : Dev Cert.KernelIdeal.nD,
    (Cert.Pre_bias_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_finite [hPre_bias_finite : Cert.Pre_bias_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_bias_finite [hKernelIdeal : Cert.KernelIdeal.Facts] [hPre_bias_finite : Cert.Pre_bias_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_bias_finite [hReferenceIdeal : Cert.ReferenceIdeal.Facts] [hPre_bias_finite : Cert.Pre_bias_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def algebraic_KernelIdeal_ReferenceIdeal_pre_bias_finite [hKernelIdeal : Cert.KernelIdeal.Facts] [hReferenceIdeal : Cert.ReferenceIdeal.Facts] [hPre_bias_finite : Cert.Pre_bias_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernelIdeal : Cert.KernelIdeal.Facts) (hReferenceIdeal : Cert.ReferenceIdeal.Facts) (hPre_bias_finite : Cert.Pre_bias_finite.Facts),
    quiescent_KernelIdeal (hKernelIdeal := hKernelIdeal)
    ∧ quiescent_KernelIdeal_pre_bias_finite (hKernelIdeal := hKernelIdeal) (hPre_bias_finite := hPre_bias_finite)
    ∧ quiescent_ReferenceIdeal (hReferenceIdeal := hReferenceIdeal)
    ∧ quiescent_ReferenceIdeal_pre_bias_finite (hReferenceIdeal := hReferenceIdeal) (hPre_bias_finite := hPre_bias_finite)
    ∧ algebraic_KernelIdeal_ReferenceIdeal_pre_bias_finite (hKernelIdeal := hKernelIdeal) (hReferenceIdeal := hReferenceIdeal) (hPre_bias_finite := hPre_bias_finite)
-- ==== Pre_bias_finite.lean ====
abbrev S32x1x1024 : Shape := ⟨3, ![32, 1, 1024]⟩
abbrev S1024x64 : Shape := ⟨2, ![1024, 64]⟩
abbrev S_ : Shape := ⟨0, ![]⟩
abbrev S64x1024x512 : Shape := ⟨3, ![64, 1024, 512]⟩
abbrev S64x512x1024 : Shape := ⟨3, ![64, 512, 1024]⟩
abbrev S1024x2048 : Shape := ⟨2, ![1024, 2048]⟩
abbrev S2048x1024 : Shape := ⟨2, ![2048, 1024]⟩

class Facts : Prop where

variable [Facts]

def fn {F : FTy → Type} [FloatOps F] (main_arg0 : FVec F S32x1x1024 .f32) (main_arg1 : FVec F S1024x64 .f32) (main_arg2 : FVec F S_ .f32) (main_arg3 : FVec F S64x1024x512 .f32) (main_arg4 : FVec F S64x1024x512 .f32) (main_arg5 : FVec F S64x512x1024 .f32) (main_arg6 : FVec F S1024x2048 .f32) (main_arg7 : FVec F S1024x2048 .f32) (main_arg8 : FVec F S2048x1024 .f32) : IVec S_ 1 :=
  let main_cst : FVec F S_ .f32 := constant S_ .f32 0xFF800000#32
  let main_v0 : IVec S_ 1 := cmpf .ogt main_arg2 main_cst
  let main_cst_0 : FVec F S_ .f32 := constant S_ .f32 0x7F800000#32
  let main_v1 : IVec S_ 1 := cmpf .olt main_arg2 main_cst_0
  let main_v2 : IVec S_ 1 := andi main_v0 main_v1
  main_v2
-- ==== KernelIdeal.lean ====
abbrev S32x1x1024 : Shape := ⟨3, ![32, 1, 1024]⟩
abbrev S1024x64 : Shape := ⟨2, ![1024, 64]⟩
abbrev S_ : Shape := ⟨0, ![]⟩
abbrev S64x1024x512 : Shape := ⟨3, ![64, 1024, 512]⟩
abbrev S64x512x1024 : Shape := ⟨3, ![64, 512, 1024]⟩
abbrev S1024x2048 : Shape := ⟨2, ![1024, 2048]⟩
abbrev S2048x1024 : Shape := ⟨2, ![2048, 1024]⟩
abbrev S32x1024 : Shape := ⟨2, ![32, 1024]⟩
abbrev S32x2 : Shape := ⟨2, ![32, 2]⟩
abbrev S32x64 : Shape := ⟨2, ![32, 64]⟩
abbrev S32 : Shape := ⟨1, ![32]⟩
abbrev S32x1 : Shape := ⟨2, ![32, 1]⟩
abbrev S64 : Shape := ⟨1, ![64]⟩
abbrev S16 : Shape := ⟨1, ![16]⟩
abbrev S1 : Shape := ⟨1, ![1]⟩
abbrev S32x2048 : Shape := ⟨2, ![32, 2048]⟩
abbrev S64x1 : Shape := ⟨2, ![64, 1]⟩
abbrev S1x1024x512 : Shape := ⟨3, ![1, 1024, 512]⟩
abbrev S1x512x1024 : Shape := ⟨3, ![1, 512, 1024]⟩
abbrev S1024x512 : Shape := ⟨2, ![1024, 512]⟩
abbrev S32x512 : Shape := ⟨2, ![32, 512]⟩
abbrev S512x1024 : Shape := ⟨2, ![512, 1024]⟩

abbrev nBuf : Table → Nat
  | .hbm => 19
  | .local .tc .vmem => 20
  | .local .tc .smem => 2
  | .local .scVector .vmem => 5
  | _ => 0

abbrev bufTy : (tb : Table) → Fin (nBuf tb) → BufTy
  | .hbm, ⟨0, _⟩ => ⟨S32x1x1024, .f32⟩
  | .hbm, ⟨1, _⟩ => ⟨S1024x64, .f32⟩
  | .hbm, ⟨2, _⟩ => ⟨S_, .f32⟩
  | .hbm, ⟨3, _⟩ => ⟨S64x1024x512, .f32⟩
  | .hbm, ⟨4, _⟩ => ⟨S64x1024x512, .f32⟩
  | .hbm, ⟨5, _⟩ => ⟨S64x512x1024, .f32⟩
  | .hbm, ⟨6, _⟩ => ⟨S1024x2048, .f32⟩
  | .hbm, ⟨7, _⟩ => ⟨S1024x2048, .f32⟩
  | .hbm, ⟨8, _⟩ => ⟨S2048x1024, .f32⟩
  | .hbm, ⟨9, _⟩ => ⟨S32x1024, .f32⟩
  | .hbm, ⟨10, _⟩ => ⟨S32x2, .i32⟩
  | .hbm, ⟨11, _⟩ => ⟨S32x2, .f32⟩
  | .hbm, ⟨12, _⟩ => ⟨S64, .i32⟩
  | .hbm, ⟨13, _⟩ => ⟨S64, .i32⟩
  | .hbm, ⟨14, _⟩ => ⟨S16, .i32⟩
  | .hbm, ⟨15, _⟩ => ⟨S32x1024, .f32⟩
  | .hbm, ⟨16, _⟩ => ⟨S64x1, .i32⟩
  | .hbm, ⟨17, _⟩ => ⟨S32x1024, .f32⟩
  | .hbm, ⟨18, _⟩ => ⟨S32x1x1024, .f32⟩
  | .local .tc .vmem, ⟨0, _⟩ => ⟨S32x1024, .f32⟩
  | .local .tc .vmem, ⟨1, _⟩ => ⟨S1024x64, .f32⟩
  | .local .tc .vmem, ⟨2, _⟩ => ⟨S32x2, .i32⟩
  | .local .tc .vmem, ⟨3, _⟩ => ⟨S32x2, .f32⟩
  | .local .tc .vmem, ⟨4, _⟩ => ⟨S32x1024, .f32⟩
  | .local .tc .vmem, ⟨5, _⟩ => ⟨S1024x2048, .f32⟩
  | .local .tc .vmem, ⟨6, _⟩ => ⟨S1024x2048, .f32⟩
  | .local .tc .vmem, ⟨7, _⟩ => ⟨S2048x1024, .f32⟩
  | .local .tc .vmem, ⟨8, _⟩ => ⟨S32x1024, .f32⟩
  | .local .tc .vmem, ⟨9, _⟩ => ⟨S32x1024, .f32⟩
  | .local .tc .vmem, ⟨10, _⟩ => ⟨S1x1024x512, .f32⟩
  | .local .tc .vmem, ⟨11, _⟩ => ⟨S1x1024x512, .f32⟩
  | .local .tc .vmem, ⟨12, _⟩ => ⟨S1x1024x512, .f32⟩
  | .local .tc .vmem, ⟨13, _⟩ => ⟨S1x1024x512, .f32⟩
  | .local .tc .vmem, ⟨14, _⟩ => ⟨S1x512x1024, .f32⟩
  | .local .tc .vmem, ⟨15, _⟩ => ⟨S1x512x1024, .f32⟩
  | .local .tc .vmem, ⟨16, _⟩ => ⟨S32x2, .i32⟩
  | .local .tc .vmem, ⟨17, _⟩ => ⟨S32x2, .f32⟩
  | .local .tc .vmem, ⟨18, _⟩ => ⟨S32x1024, .f32⟩
  | .local .tc .vmem, ⟨19, _⟩ => ⟨S32x1024, .f32⟩
  | .local .tc .smem, ⟨0, _⟩ => ⟨S64, .i32⟩
  | .local .tc .smem, ⟨1, _⟩ => ⟨S1, .i32⟩
  | .local .scVector .vmem, ⟨0, _⟩ => ⟨S64, .i32⟩
  | .local .scVector .vmem, ⟨1, _⟩ => ⟨S64, .i32⟩
  | .local .scVector .vmem, ⟨2, _⟩ => ⟨S64, .i32⟩
  | .local .scVector .vmem, ⟨3, _⟩ => ⟨S64, .i32⟩
  | .local .scVector .vmem, ⟨4, _⟩ => ⟨S16, .i32⟩
  | _, _ => ⟨S32x1x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 23 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTables nBuf rfl bufTy 4 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1_0 : Ref sig .tc := ⟨.hbm, 10, rfl⟩
abbrev main_v1_1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v5 : Ref sig .tc := ⟨.hbm, 15, rfl⟩
abbrev main_v6 : Ref sig .tc := ⟨.hbm, 16, rfl⟩
abbrev main_v8 : Ref sig .tc := ⟨.hbm, 17, rfl⟩
abbrev main_v9 : Ref sig .tc := ⟨.hbm, 18, rfl⟩
abbrev main_v7 : Ref sig .tc := ⟨.smem, 0, rfl⟩
abbrev main_v4 : Ref sig .tc := ⟨.smem, 1, rfl⟩
abbrev main_v2_scv : Ref sig .scVector := ⟨.hbm, 12, rfl⟩
abbrev main_v3_0_scv : Ref sig .scVector := ⟨.hbm, 13, rfl⟩
abbrev main_v3_1_scv : Ref sig .scVector := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc2_stg0_0 : Ref sig .tc := ⟨.vmem, 4, rfl⟩
abbrev cc2_stg1_0 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc3_stg0_0 : Ref sig .tc := ⟨.vmem, 9, rfl⟩
abbrev cc3_stg1_0 : Ref sig .tc := ⟨.vmem, 10, rfl⟩
abbrev cc3_stg1_1 : Ref sig .tc := ⟨.vmem, 11, rfl⟩
abbrev cc3_stg2_0 : Ref sig .tc := ⟨.vmem, 12, rfl⟩
abbrev cc3_stg2_1 : Ref sig .tc := ⟨.vmem, 13, rfl⟩
abbrev cc3_stg3_0 : Ref sig .tc := ⟨.vmem, 14, rfl⟩
abbrev cc3_stg3_1 : Ref sig .tc := ⟨.vmem, 15, rfl⟩
abbrev cc3_stg4_0 : Ref sig .tc := ⟨.vmem, 16, rfl⟩
abbrev cc3_stg5_0 : Ref sig .tc := ⟨.vmem, 17, rfl⟩
abbrev cc3_stg6_0 : Ref sig .tc := ⟨.vmem, 18, rfl⟩
abbrev cc3_stg7_0 : Ref sig .tc := ⟨.vmem, 19, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc2_sem0_0 : DmaSem sig := 7
abbrev cc2_sem1_0 : DmaSem sig := 8
abbrev cc2_sem2_0 : DmaSem sig := 9
abbrev cc2_sem3_0 : DmaSem sig := 10
abbrev cc2_sem4_0 : DmaSem sig := 11
abbrev cc3_sem0_0 : DmaSem sig := 12
abbrev cc3_sem1_0 : DmaSem sig := 13
abbrev cc3_sem1_1 : DmaSem sig := 14
abbrev cc3_sem2_0 : DmaSem sig := 15
abbrev cc3_sem2_1 : DmaSem sig := 16
abbrev cc3_sem3_0 : DmaSem sig := 17
abbrev cc3_sem3_1 : DmaSem sig := 18
abbrev cc3_sem4_0 : DmaSem sig := 19
abbrev cc3_sem5_0 : DmaSem sig := 20
abbrev cc3_sem6_0 : DmaSem sig := 21
abbrev cc3_sem7_0 : DmaSem sig := 22
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := .none

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev grid1 : Pipeline.Grid := ⟨2, ![2, 16], ![false, false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_chk1 (i : grid1.Coords) (v12 : IVec S16 32) : Prop :=
  (∀ (k1_h1 : k1_cond1 i = 1#1), ∀ a x, ((![v12] : Fin 1 → IVec S16 32) a x).toNat < S64.size a)
theorem k1_idx1_inb : ∀ (i : grid1.Coords) (v12 : IVec S16 32) (k1_hw1 : k1_chk1 i v12), ∀ (k1_h1 : k1_cond1 i = 1#1), ∀ a x, ((![v12] : Fin 1 → IVec S16 32) a x).toNat < S64.size a := fun i v12 k1_hw1 k1_h1 => k1_hw1 k1_h1

def k1_chk2 (i : grid1.Coords) (v13 : IVec S16 32) : Prop :=
  (∀ (k1_h1 : k1_cond1 i = 1#1), ∀ a x, ((![v13] : Fin 1 → IVec S16 32) a x).toNat < S64.size a)
theorem k1_idx2_inb : ∀ (i : grid1.Coords) (v13 : IVec S16 32) (k1_hw2 : k1_chk2 i v13), ∀ (k1_h1 : k1_cond1 i = 1#1), ∀ a x, ((![v13] : Fin 1 → IVec S16 32) a x).toNat < S64.size a := fun i v13 k1_hw2 k1_h1 => k1_hw2 k1_h1

def k1_chk3 (i : grid1.Coords) (v14 : IVec S16 32) : Prop :=
  (∀ (k1_h1 : k1_cond1 i = 1#1), ∀ a x, ((![v14] : Fin 1 → IVec S16 32) a x).toNat < S64.size a)
theorem k1_idx3_inb : ∀ (i : grid1.Coords) (v14 : IVec S16 32) (k1_hw3 : k1_chk3 i v14), ∀ (k1_h1 : k1_cond1 i = 1#1), ∀ a x, ((![v14] : Fin 1 → IVec S16 32) a x).toNat < S64.size a := fun i v14 k1_hw3 k1_h1 => k1_hw3 k1_h1

def k1_chk4 (i : grid1.Coords) (v15 : IVec S16 32) : Prop :=
  (∀ (k1_h1 : k1_cond1 i = 1#1), ∀ a x, ((![v15] : Fin 1 → IVec S16 32) a x).toNat < S64.size a)
theorem k1_idx4_inb : ∀ (i : grid1.Coords) (v15 : IVec S16 32) (k1_hw4 : k1_chk4 i v15), ∀ (k1_h1 : k1_cond1 i = 1#1), ∀ a x, ((![v15] : Fin 1 → IVec S16 32) a x).toNat < S64.size a := fun i v15 k1_hw4 k1_h1 => k1_hw4 k1_h1

def k1_chk5 (i : grid1.Coords) (v147 : IVec S16 32) : Prop :=
  (∀ (k1_h1 : k1_cond1 i = 1#1), ∀ a x, ((![v147] : Fin 1 → IVec S16 32) a x).toNat < S64.size a)
theorem k1_idx5_inb : ∀ (i : grid1.Coords) (v147 : IVec S16 32) (k1_hw5 : k1_chk5 i v147), ∀ (k1_h1 : k1_cond1 i = 1#1), ∀ a x, ((![v147] : Fin 1 → IVec S16 32) a x).toNat < S64.size a := fun i v147 k1_hw5 k1_h1 => k1_hw5 k1_h1

def k1_chk6 (i : grid1.Coords) (v153 : IVec S16 32) : Prop :=
  (∀ (k1_h1 : k1_cond1 i = 1#1), ∀ a x, ((![v153] : Fin 1 → IVec S16 32) a x).toNat < S64.size a)
theorem k1_idx6_inb : ∀ (i : grid1.Coords) (v153 : IVec S16 32) (k1_hw6 : k1_chk6 i v153), ∀ (k1_h1 : k1_cond1 i = 1#1), ∀ a x, ((![v153] : Fin 1 → IVec S16 32) a x).toNat < S64.size a := fun i v153 k1_hw6 k1_h1 => k1_hw6 k1_h1

def k1_chk7 (i : grid1.Coords) (v159 : IVec S16 32) : Prop :=
  (∀ (k1_h1 : k1_cond1 i = 1#1), ∀ a x, ((![v159] : Fin 1 → IVec S16 32) a x).toNat < S64.size a)
theorem k1_idx7_inb : ∀ (i : grid1.Coords) (v159 : IVec S16 32) (k1_hw7 : k1_chk7 i v159), ∀ (k1_h1 : k1_cond1 i = 1#1), ∀ a x, ((![v159] : Fin 1 → IVec S16 32) a x).toNat < S64.size a := fun i v159 k1_hw7 k1_h1 => k1_hw7 k1_h1

def k1_chk8 (i : grid1.Coords) (v165 : IVec S16 32) : Prop :=
  (∀ (k1_h1 : k1_cond1 i = 1#1), ∀ a x, ((![v165] : Fin 1 → IVec S16 32) a x).toNat < S64.size a)
theorem k1_idx8_inb : ∀ (i : grid1.Coords) (v165 : IVec S16 32) (k1_hw8 : k1_chk8 i v165), ∀ (k1_h1 : k1_cond1 i = 1#1), ∀ a x, ((![v165] : Fin 1 → IVec S16 32) a x).toNat < S64.size a := fun i v165 k1_hw8 k1_h1 => k1_hw8 k1_h1
abbrev grid2 : Pipeline.Grid := .none

abbrev stage2_0 : Fin 1 → Memref sig .tc .vmem S32x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1024x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1024x2048 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S2048x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S32x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev grid3 : Pipeline.Grid := ⟨1, ![64], ![false]⟩

abbrev pre3 : Pipeline.Prefetch sig := ⟨2, ![main_v7.idx, main_v4.idx], fun | 0 => main_v7.names | 1 => main_v4.names | ⟨_ + 2, h⟩ => absurd h (Nat.not_lt.2 (Nat.le_add_left _ _)), fun | 0 => rfl | 1 => rfl | ⟨_ + 2, h⟩ => absurd h (Nat.not_lt.2 (Nat.le_add_left _ _))⟩

def k3_off1 (i : grid3.Coords) : Fin 1 → Nat :=
  let arg0 : BitVec 32 := BitVec.ofNat 32 (i 0).val
  let v0 : Index := Scalar.indexCast arg0
  ![v0.toNat]
def k3_off2 (i : grid3.Coords) : Fin 1 → Nat :=
  let arg0 : BitVec 32 := BitVec.ofNat 32 (i 0).val
  let v7 : Index := Scalar.indexCast arg0
  ![v7.toNat]
def k3_cond1 (i : grid3.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k3_cond2 (i : grid3.Coords) (v3 : BitVec 32) : BitVec 1 :=
  let arg0 : BitVec 32 := BitVec.ofNat 32 (i 0).val
  let v4 : BitVec 1 := Scalar.cmpi .slt arg0 v3
  let v5 : BitVec 32 := Scalar.extui v4
  let c0_i32_1 : BitVec 32 := 0#32
  let v6 : BitVec 1 := Scalar.cmpi .ne v5 c0_i32_1
  v6

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (k3_off1_inb : ∀ i : grid3.Coords, ∀ a, (k3_off1 i) a + S1.size a ≤ S64.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S64) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_2 (k3_off1_inb : ∀ i : grid3.Coords, ∀ a, (k3_off1 i) a + S1.size a ≤ S64.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S64) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_3 (k3_off1_inb : ∀ i : grid3.Coords, ∀ a, (k3_off1 i) a + S1.size a ≤ S64.size a) (numel1_S1 : S1.numel = 1) (pf : pre3.Contents (Elt F)) (i : grid3.Coords) : Fin 3 → Nat :=
  let arg0 : BitVec 32 := BitVec.ofNat 32 (i 0).val
  let v0 : Index := Scalar.indexCast arg0
  let v1 : BitVec 32 := pf.at 0 (Rect.unit (s := S64) ![v0.toNat] S1.size (k3_off1_inb i)) numel1_S1
  let c0_i32 : BitVec 32 := 0#32
  let c0_i32_0 : BitVec 32 := 0#32
  let c0_i32_1 : BitVec 32 := 0#32
  ![v1.toNat, c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S32x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S1x1024x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1x1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1x512x1024 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S32x2 .i32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S32x2 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S32x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32x1x1024 : Shape := ⟨3, ![32, 1, 1024]⟩
abbrev S1024x64 : Shape := ⟨2, ![1024, 64]⟩
abbrev S_ : Shape := ⟨0, ![]⟩
abbrev S64x1024x512 : Shape := ⟨3, ![64, 1024, 512]⟩
abbrev S64x512x1024 : Shape := ⟨3, ![64, 512, 1024]⟩
abbrev S1024x2048 : Shape := ⟨2, ![1024, 2048]⟩
abbrev S2048x1024 : Shape := ⟨2, ![2048, 1024]⟩
abbrev S32x1x64 : Shape := ⟨3, ![32, 1, 64]⟩
abbrev S32x1 : Shape := ⟨2, ![32, 1]⟩
abbrev S32x1x1 : Shape := ⟨3, ![32, 1, 1]⟩
abbrev S32x1x2 : Shape := ⟨3, ![32, 1, 2]⟩
abbrev S32x2x1 : Shape := ⟨3, ![32, 2, 1]⟩
abbrev S1 : Shape := ⟨1, ![1]⟩
abbrev S1x1x1 : Shape := ⟨3, ![1, 1, 1]⟩
abbrev S32x2 : Shape := ⟨2, ![32, 2]⟩
abbrev S32x1024 : Shape := ⟨2, ![32, 1024]⟩
abbrev S32 : Shape := ⟨1, ![32]⟩
abbrev S32x1024x512 : Shape := ⟨3, ![32, 1024, 512]⟩
abbrev S32x512x1024 : Shape := ⟨3, ![32, 512, 1024]⟩
abbrev S32x512 : Shape := ⟨2, ![32, 512]⟩
abbrev S32x1x2048 : Shape := ⟨3, ![32, 1, 2048]⟩

abbrev nBuf : Space → Nat
  | .hbm => 178
  | .vmem => 0
  | .smem => 0
  | _ => 0

abbrev hbmTy0_0 (i : Nat) : BufTy := match i % 128 with
  | 0 => ⟨S32x1x1024, .f32⟩
  | 1 => ⟨S1024x64, .f32⟩
  | 2 => ⟨S_, .f32⟩
  | 3 => ⟨S64x1024x512, .f32⟩
  | 4 => ⟨S64x1024x512, .f32⟩
  | 5 => ⟨S64x512x1024, .f32⟩
  | 6 => ⟨S1024x2048, .f32⟩
  | 7 => ⟨S1024x2048, .f32⟩
  | 8 => ⟨S2048x1024, .f32⟩
  | 9 => ⟨S32x1x64, .f32⟩
  | 10 => ⟨S_, .f32⟩
  | 11 => ⟨S32x1, .f32⟩
  | 12 => ⟨S_, .f32⟩
  | 13 => ⟨S32x1, .f32⟩
  | 14 => ⟨S32x1, .f32⟩
  | 15 => ⟨S32x1x1, .f32⟩
  | 16 => ⟨S32x1x64, .f32⟩
  | 17 => ⟨S32x1x64, .f32⟩
  | 18 => ⟨S32x1x64, .f32⟩
  | 19 => ⟨S_, .f32⟩
  | 20 => ⟨S32x1, .f32⟩
  | 21 => ⟨S32x1x1, .f32⟩
  | 22 => ⟨S32x1x64, .f32⟩
  | 23 => ⟨S32x1x64, .f32⟩
  | 24 => ⟨S32x1x64, .f32⟩
  | 25 => ⟨S32x1x64, .f32⟩
  | 26 => ⟨S32x1x2, .f32⟩
  | 27 => ⟨S32x1x2, .i32⟩
  | 28 => ⟨S_, .i32⟩
  | 29 => ⟨S32x1x2, .i32⟩
  | 30 => ⟨S32x1x2, .i1⟩
  | 31 => ⟨S_, .i32⟩
  | 32 => ⟨S32x1x2, .i32⟩
  | 33 => ⟨S32x1x2, .i32⟩
  | 34 => ⟨S32x1x2, .i32⟩
  | 35 => ⟨S32x2x1, .i32⟩
  | 36 => ⟨S1, .i32⟩
  | 37 => ⟨S_, .i32⟩
  | 38 => ⟨S32x2x1, .i32⟩
  | 39 => ⟨S32x2x1, .i1⟩
  | 40 => ⟨S1x1x1, .i32⟩
  | 41 => ⟨S32x2x1, .i32⟩
  | 42 => ⟨S32x2x1, .i1⟩
  | 43 => ⟨S32x2x1, .i1⟩
  | 44 => ⟨S_, .i1⟩
  | 45 => ⟨S32x2, .i1⟩
  | 46 => ⟨S32x1x2, .f32⟩
  | 47 => ⟨S32x1x2, .i1⟩
  | 48 => ⟨S_, .f32⟩
  | 49 => ⟨S32x1x2, .f32⟩
  | 50 => ⟨S32x1x2, .f32⟩
  | 51 => ⟨S_, .f32⟩
  | 52 => ⟨S32x1, .f32⟩
  | 53 => ⟨S32x1x1, .f32⟩
  | 54 => ⟨S_, .f32⟩
  | 55 => ⟨S32x1x1, .f32⟩
  | 56 => ⟨S32x1x1, .f32⟩
  | 57 => ⟨S32x1x2, .f32⟩
  | 58 => ⟨S32x1x2, .f32⟩
  | 59 => ⟨S_, .f32⟩
  | 60 => ⟨S32x1x2, .f32⟩
  | 61 => ⟨S32x1x2, .f32⟩
  | 62 => ⟨S32x1024, .f32⟩
  | 63 => ⟨S32x2, .f32⟩
  | 64 => ⟨S32x2, .i32⟩
  | 65 => ⟨S_, .f32⟩
  | 66 => ⟨S32x1024, .f32⟩
  | 67 => ⟨S32x1, .i32⟩
  | 68 => ⟨S32, .i32⟩
  | 69 => ⟨S32x1, .f32⟩
  | 70 => ⟨S32, .f32⟩
  | 71 => ⟨S_, .i32⟩
  | 72 => ⟨S32, .i32⟩
  | 73 => ⟨S32, .i1⟩
  | 74 => ⟨S_, .i32⟩
  | 75 => ⟨S32, .i32⟩
  | 76 => ⟨S32, .i32⟩
  | 77 => ⟨S32, .i32⟩
  | 78 => ⟨S32x1, .i32⟩
  | 79 => ⟨S32x1024x512, .f32⟩
  | 80 => ⟨S_, .i32⟩
  | 81 => ⟨S32, .i32⟩
  | 82 => ⟨S32, .i1⟩
  | 83 => ⟨S_, .i32⟩
  | 84 => ⟨S32, .i32⟩
  | 85 => ⟨S32, .i32⟩
  | 86 => ⟨S32, .i32⟩
  | 87 => ⟨S32x1, .i32⟩
  | 88 => ⟨S32x1024x512, .f32⟩
  | 89 => ⟨S_, .i32⟩
  | 90 => ⟨S32, .i32⟩
  | 91 => ⟨S32, .i1⟩
  | 92 => ⟨S_, .i32⟩
  | 93 => ⟨S32, .i32⟩
  | 94 => ⟨S32, .i32⟩
  | 95 => ⟨S32, .i32⟩
  | 96 => ⟨S32x1, .i32⟩
  | 97 => ⟨S32x512x1024, .f32⟩
  | 98 => ⟨S32x512, .f32⟩
  | 99 => ⟨S32x512, .f32⟩
  | 100 => ⟨S32x512, .f32⟩
  | 101 => ⟨S32x512, .f32⟩
  | 102 => ⟨S_, .f32⟩
  | 103 => ⟨S32x512, .f32⟩
  | 104 => ⟨S32x512, .f32⟩
  | 105 => ⟨S_, .f32⟩
  | 106 => ⟨S32x512, .f32⟩
  | 107 => ⟨S32x512, .f32⟩
  | 108 => ⟨S32x512, .f32⟩
  | 109 => ⟨S32x512, .f32⟩
  | 110 => ⟨S32x1024, .f32⟩
  | 111 => ⟨S32x1, .f32⟩
  | 112 => ⟨S32x1024, .f32⟩
  | 113 => ⟨S32x1024, .f32⟩
  | 114 => ⟨S32x1024, .f32⟩
  | 115 => ⟨S32x1, .i32⟩
  | 116 => ⟨S32, .i32⟩
  | 117 => ⟨S32x1, .f32⟩
  | 118 => ⟨S32, .f32⟩
  | 119 => ⟨S_, .i32⟩
  | 120 => ⟨S32, .i32⟩
  | 121 => ⟨S32, .i1⟩
  | 122 => ⟨S_, .i32⟩
  | 123 => ⟨S32, .i32⟩
  | 124 => ⟨S32, .i32⟩
  | 125 => ⟨S32, .i32⟩
  | 126 => ⟨S32x1, .i32⟩
  | 127 => ⟨S32x1024x512, .f32⟩
  | _ => ⟨S32x1x1024, .f32⟩

abbrev hbmTy0_1 (i : Nat) : BufTy := match i % 128 with
  | 0 => ⟨S_, .i32⟩
  | 1 => ⟨S32, .i32⟩
  | 2 => ⟨S32, .i1⟩
  | 3 => ⟨S_, .i32⟩
  | 4 => ⟨S32, .i32⟩
  | 5 => ⟨S32, .i32⟩
  | 6 => ⟨S32, .i32⟩
  | 7 => ⟨S32x1, .i32⟩
  | 8 => ⟨S32x1024x512, .f32⟩
  | 9 => ⟨S_, .i32⟩
  | 10 => ⟨S32, .i32⟩
  | 11 => ⟨S32, .i1⟩
  | 12 => ⟨S_, .i32⟩
  | 13 => ⟨S32, .i32⟩
  | 14 => ⟨S32, .i32⟩
  | 15 => ⟨S32, .i32⟩
  | 16 => ⟨S32x1, .i32⟩
  | 17 => ⟨S32x512x1024, .f32⟩
  | 18 => ⟨S32x512, .f32⟩
  | 19 => ⟨S32x512, .f32⟩
  | 20 => ⟨S32x512, .f32⟩
  | 21 => ⟨S32x512, .f32⟩
  | 22 => ⟨S_, .f32⟩
  | 23 => ⟨S32x512, .f32⟩
  | 24 => ⟨S32x512, .f32⟩
  | 25 => ⟨S_, .f32⟩
  | 26 => ⟨S32x512, .f32⟩
  | 27 => ⟨S32x512, .f32⟩
  | 28 => ⟨S32x512, .f32⟩
  | 29 => ⟨S32x512, .f32⟩
  | 30 => ⟨S32x1024, .f32⟩
  | 31 => ⟨S32x1, .f32⟩
  | 32 => ⟨S32x1024, .f32⟩
  | 33 => ⟨S32x1024, .f32⟩
  | 34 => ⟨S32x1024, .f32⟩
  | 35 => ⟨S32x1x1024, .f32⟩
  | 36 => ⟨S32x1x2048, .f32⟩
  | 37 => ⟨S32x1x2048, .f32⟩
  | 38 => ⟨S32x1x2048, .f32⟩
  | 39 => ⟨S32x1x2048, .f32⟩
  | 40 => ⟨S_, .f32⟩
  | 41 => ⟨S32x1x2048, .f32⟩
  | 42 => ⟨S32x1x2048, .f32⟩
  | 43 => ⟨S_, .f32⟩
  | 44 => ⟨S32x1x2048, .f32⟩
  | 45 => ⟨S32x1x2048, .f32⟩
  | 46 => ⟨S32x1x2048, .f32⟩
  | 47 => ⟨S32x1x2048, .f32⟩
  | 48 => ⟨S32x1x1024, .f32⟩
  | 49 => ⟨S32x1x1024, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_values : Ref sig .tc := ⟨.hbm, 26, rfl⟩
abbrev main_indices : Ref sig .tc := ⟨.hbm, 27, rfl⟩
abbrev main_call0_c : Ref sig .tc := ⟨.hbm, 28, rfl⟩
abbrev main_call0_v0 : Ref sig .tc := ⟨.hbm, 29, rfl⟩
abbrev main_call0_v1 : Ref sig .tc := ⟨.hbm, 30, rfl⟩
abbrev main_call0_c_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_c_1 : Ref sig .tc := ⟨.hbm, 36, rfl⟩
abbrev main_call0_c_2 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_c_3 : Ref sig .tc := ⟨.hbm, 44, rfl⟩
abbrev main_call0_v12 : Ref sig .tc := ⟨.hbm, 45, rfl⟩
abbrev main_call0_v13 : Ref sig .tc := ⟨.hbm, 46, rfl⟩
abbrev main_call0_v14 : Ref sig .tc := ⟨.hbm, 47, rfl⟩
abbrev main_call0_cst : Ref sig .tc := ⟨.hbm, 48, rfl⟩
abbrev main_call0_v15 : Ref sig .tc := ⟨.hbm, 49, rfl⟩
abbrev main_v14 : Ref sig .tc := ⟨.hbm, 50, rfl⟩
abbrev main_cst_2 : Ref sig .tc := ⟨.hbm, 51, rfl⟩
abbrev main_v15 : Ref sig .tc := ⟨.hbm, 52, rfl⟩
abbrev main_v16 : Ref sig .tc := ⟨.hbm, 53, rfl⟩
abbrev main_cst_3 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_cst_4 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_cst_5 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_c : Ref sig .tc := ⟨.hbm, 71, rfl⟩
abbrev main_v31 : Ref sig .tc := ⟨.hbm, 72, rfl⟩
abbrev main_v32 : Ref sig .tc := ⟨.hbm, 73, rfl⟩
abbrev main_c_6 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_c_7 : Ref sig .tc := ⟨.hbm, 80, rfl⟩
abbrev main_v38 : Ref sig .tc := ⟨.hbm, 81, rfl⟩
abbrev main_v39 : Ref sig .tc := ⟨.hbm, 82, rfl⟩
abbrev main_c_8 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_c_9 : Ref sig .tc := ⟨.hbm, 89, rfl⟩
abbrev main_v45 : Ref sig .tc := ⟨.hbm, 90, rfl⟩
abbrev main_v46 : Ref sig .tc := ⟨.hbm, 91, rfl⟩
abbrev main_c_10 : Ref sig .tc := ⟨.hbm, 92, rfl⟩
abbrev main_v47 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_call1_v0 : Ref sig .tc := ⟨.hbm, 100, rfl⟩
abbrev main_call1_v1 : Ref sig .tc := ⟨.hbm, 101, rfl⟩
abbrev main_call1_cst : Ref sig .tc := ⟨.hbm, 102, rfl⟩
abbrev main_call1_v2 : Ref sig .tc := ⟨.hbm, 103, rfl⟩
abbrev main_call1_v3 : Ref sig .tc := ⟨.hbm, 104, rfl⟩
abbrev main_call1_cst_0 : Ref sig .tc := ⟨.hbm, 105, rfl⟩
abbrev main_call1_v4 : Ref sig .tc := ⟨.hbm, 106, rfl⟩
abbrev main_call1_v5 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_c_11 : Ref sig .tc := ⟨.hbm, 119, rfl⟩
abbrev main_v65 : Ref sig .tc := ⟨.hbm, 120, rfl⟩
abbrev main_v66 : Ref sig .tc := ⟨.hbm, 121, rfl⟩
abbrev main_c_12 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_c_13 : Ref sig .tc := ⟨.hbm, 128, rfl⟩
abbrev main_v72 : Ref sig .tc := ⟨.hbm, 129, rfl⟩
abbrev main_v73 : Ref sig .tc := ⟨.hbm, 130, rfl⟩
abbrev main_c_14 : Ref sig .tc := ⟨.hbm, 131, rfl⟩
abbrev main_v74 : Ref sig .tc := ⟨.hbm, 132, rfl⟩
abbrev main_v75 : Ref sig .tc := ⟨.hbm, 133, rfl⟩
abbrev main_v76 : Ref sig .tc := ⟨.hbm, 134, rfl⟩
abbrev main_v77 : Ref sig .tc := ⟨.hbm, 135, rfl⟩
abbrev main_v78 : Ref sig .tc := ⟨.hbm, 136, rfl⟩
abbrev main_c_15 : Ref sig .tc := ⟨.hbm, 137, rfl⟩
abbrev main_v79 : Ref sig .tc := ⟨.hbm, 138, rfl⟩
abbrev main_v80 : Ref sig .tc := ⟨.hbm, 139, rfl⟩
abbrev main_c_16 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_v86 : Ref sig .tc := ⟨.hbm, 146, rfl⟩
abbrev main_v87 : Ref sig .tc := ⟨.hbm, 147, rfl⟩
abbrev main_call2_v0 : Ref sig .tc := ⟨.hbm, 148, rfl⟩
abbrev main_call2_v1 : Ref sig .tc := ⟨.hbm, 149, rfl⟩
abbrev main_call2_cst : Ref sig .tc := ⟨.hbm, 150, rfl⟩
abbrev main_call2_v2 : Ref sig .tc := ⟨.hbm, 151, rfl⟩
abbrev main_call2_v3 : Ref sig .tc := ⟨.hbm, 152, rfl⟩
abbrev main_call2_cst_0 : Ref sig .tc := ⟨.hbm, 153, rfl⟩
abbrev main_call2_v4 : Ref sig .tc := ⟨.hbm, 154, rfl⟩
abbrev main_call2_v5 : Ref sig .tc := ⟨.hbm, 155, rfl⟩
abbrev main_v88 : Ref sig .tc := ⟨.hbm, 156, rfl⟩
abbrev main_v89 : Ref sig .tc := ⟨.hbm, 157, rfl⟩
abbrev main_v90 : Ref sig .tc := ⟨.hbm, 158, rfl⟩
abbrev main_v91 : Ref sig .tc := ⟨.hbm, 159, rfl⟩
abbrev main_v92 : Ref sig .tc := ⟨.hbm, 160, rfl⟩
abbrev main_v93 : Ref sig .tc := ⟨.hbm, 161, rfl⟩
abbrev main_v94 : Ref sig .tc := ⟨.hbm, 162, rfl⟩
abbrev main_v95 : Ref sig .tc := ⟨.hbm, 163, rfl⟩
abbrev main_v96 : Ref sig .tc := ⟨.hbm, 164, rfl⟩
abbrev main_v97 : Ref sig .tc := ⟨.hbm, 165, rfl⟩
abbrev main_call3_v0 : Ref sig .tc := ⟨.hbm, 166, rfl⟩
abbrev main_call3_v1 : Ref sig .tc := ⟨.hbm, 167, rfl⟩
abbrev main_call3_cst : Ref sig .tc := ⟨.hbm, 168, rfl⟩
abbrev main_call3_v2 : Ref sig .tc := ⟨.hbm, 169, rfl⟩
abbrev main_call3_v3 : Ref sig .tc := ⟨.hbm, 170, rfl⟩
abbrev main_call3_cst_0 : Ref sig .tc := ⟨.hbm, 171, rfl⟩
abbrev main_call3_v4 : Ref sig .tc := ⟨.hbm, 172, rfl⟩
abbrev main_call3_v5 : Ref sig .tc := ⟨.hbm, 173, rfl⟩
abbrev main_v98 : Ref sig .tc := ⟨.hbm, 174, rfl⟩
abbrev main_v99 : Ref sig .tc := ⟨.hbm, 175, rfl⟩
abbrev main_v100 : Ref sig .tc := ⟨.hbm, 176, rfl⟩
abbrev main_v101 : Ref sig .tc := ⟨.hbm, 177, rfl⟩

abbrev nD : Nat := 1
abbrev τ : Topo := Topo.v7x

variable {F : FTy → Type} [FloatOps F]
-- ==== Proof.Common.lean ====
/-
  What the proof of the printed kernel shares: the SparseCore configuration as the launch theorem sees it, the resource algebra
  (the handshakes' rounds, the TensorCore pipelines' rounds and the SparseCore copies' counters), and the locations of @main's buffers.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The program as the launch theorem sees it -/

abbrev ΛP : Labels := Pipeline.Sig Λ₀ (Fin 3) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra -/

abbrev UH : Type := URounds (GSem nD τ sig) ℕ
abbrev UK : Type := URounds (GSem nD τ sig) Unit
abbrev UU : Type := UH × (UK × Counters)

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
def EP : Emb UK (MT nD τ sig (HIx 1) (Elt F) ℕ UU ℕ) :=
  ((Emb.inl : Emb UK (UK × Counters)).trans (Emb.inr : Emb (UK × Counters) UU)).trans
    (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance
instance EP_landsIn : (EP : Emb UK 𝕄).LandsIn (upEmb : UEmb _ 𝕄) := by unfold EP; infer_instance

/-! ## The locations of @main's buffers on a device -/

/-- The routing call's indices, flat: what the SparseCore call reads. -/
abbrev tLoc (d : Dev nD) : Loc nD τ sig := (SparseCore.T d).loc main_v2
/-- The SparseCore call's two results: the compacted ids and the number of them. -/
abbrev iLoc (d : Dev nD) : Loc nD τ sig := (SparseCore.T d).loc main_v3_0
abbrev nLoc (d : Dev nD) : Loc nD τ sig := (SparseCore.T d).loc main_v3_1

abbrev tPts (d : Dev nD) (f : Buf (Elt F) (tLoc d)) : sProp 𝕄 := tLoc d ↦{fullShare} f
abbrev iPts (d : Dev nD) (f : Buf (Elt F) (iLoc d)) : sProp 𝕄 := iLoc d ↦{fullShare} f
abbrev nPts (d : Dev nD) (f : Buf (Elt F) (nLoc d)) : sProp 𝕄 := nLoc d ↦{fullShare} f

end Cert.Proof.Moe

end
-- ==== Proof.Calls.lean ====
/-
  The routing call and the shared-expert call, one grid point each: what the pipeline stages, what the body leaves, and the body
  run once against it.
-/
module

public import proofs.«01_k».proof.Proof.Common
public import proofs.«01_k».proof.Proof.Gen.KernelIdeal.Launch
public import proofs.«01_k».proof.Proof.Gen.KernelIdeal.Points
public import Idealize.ShloMosaic.Lib.VecWindow
public import Idealize.ShloMosaic.Lib.Pipeline.Frame
public import Idealize.ShloMosaic.Lib.Pipeline.FrameBody
public import Idealize.ShloMosaic.Lib.Pipeline.FrameTail
public import Idealize.ShloMosaic.Lib.Pipeline.TableIdle

@[expose] public section

noncomputable section

namespace Cert.Proof.Moe

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-- A valuation's contents of a buffer that the TensorCore addresses. -/
abbrev at' (W : Valuation τ sig (Elt F)) (b : Ref sig .tc) : b.ty.Contents (Elt F) := W (Proc.devRef .tc b)

/-! ## What the two calls leave -/

/-- The routing call's indices, both columns, from the tokens and the router's weights. -/
abbrev routeIx (x : S32x1024.Idx → Elt F .f32) (w : S1024x64.Idx → Elt F .f32) : S32x2.Idx → Elt F .i32 := k0_pay1 (k0_pay5 x w) (k0_pay8 x w)
/-- The routing call's weights, both columns. -/
abbrev routeW (x : S32x1024.Idx → Elt F .f32) (w : S1024x64.Idx → Elt F .f32) : S32x2.Idx → Elt F .f32 := k0_pay2 (k0_pay10 x w) (k0_pay11 x w)

/-! ## The bodies, run once -/

/-- What a view reads after a store over its whole shape: the payload. -/
theorem read_stored {κ : Kind} {sp : Space} {s : Shape} {e : EltTy} (v : View sig κ sp s e) (f : v.ty.Contents (Elt F)) {off : Fin s.rank → ℕ}
    (inb : ∀ a, off a + s.size a ≤ s.size a) (w : s.Idx → Elt F e) (L : List (View.Piece (Elt F) s e)) :
    v.read (Elt F) (v.writes (Elt F) f (⟨Rect.unit off s.size inb, w⟩ :: L)) = w :=
  (View.readAt_full v _ inb).symm.trans (View.readAt_writes_full v f inb inb w L)

theorem route_run (c : Dev nD) (O : CellTallies nD τ sig (HIx 1)) (W : Waits sig (HIx 1))
    (m0 : Memref sig .tc .vmem S32x1024 .f32) (h0 : m0.IsWhole) (m1 : Memref sig .tc .vmem S1024x64 .f32) (h1 : m1.IsWhole)
    (m2 : Memref sig .tc .vmem S32x2 .i32) (h2 : m2.IsWhole) (m3 : Memref sig .tc .vmem S32x2 .f32) (h3 : m3.IsWhole)
    (x : S32x1024.Idx → Elt F .f32) (w : S1024x64.Idx → Elt F .f32) (d2 : S32x2.Idx → Elt F .i32) (d3 : S32x2.Idx → Elt F .f32) (Q : PUnit → sProp 𝕄) :
    iprop(owns (c : Thread nD τ) m0 fullShare x ∗ owns (c : Thread nD τ) m1 fullShare w ∗ owns (c : Thread nD τ) m2 fullShare d2
        ∗ owns (c : Thread nD τ) m3 fullShare d3 ∗ owes (c : Thread nD τ) O W
        ∗ (iprop(owns (c : Thread nD τ) m0 fullShare x ∗ owns (c : Thread nD τ) m1 fullShare w ∗ owns (c : Thread nD τ) m2 fullShare (routeIx x w)
            ∗ owns (c : Thread nD τ) m3 fullShare (routeW x w) ∗ owes (c : Thread nD τ) O W) -∗ Q ⟨⟩))
      ⊢ wp frame (wpE (defs₀ (F := F)) 𝒱₀ c none) Set.univ (cc0__routing_body m0 h0 m1 h1 m2 h2 m3 h3) Q := by
  simp only [cc0__routing_body_eq_skeleton]
  unfold cc0__routing_body_skel
  simp only [k0_part1_eq_skeleton]
  rw [owns_eq_rep (c : Thread nD τ) m0 fullShare x, owns_eq_rep (c : Thread nD τ) m1 fullShare w, owns_eq_rep (Val := Elt F) (c : Thread nD τ) m2 fullShare d2, owns_eq_rep (Val := Elt F) (c : Thread nD τ) m3 fullShare d3]
  unfold owns
  iintro ⟨H0, H1, H2, H3, HO, Hk⟩
  sl_unfold [k0_part1_skel]
  sl_exec
  sl_step
  iapply Hk
  isplitl [H0]; · iexact H0
  isplitl [H1]; · iexact H1
  isplitl [H2]
  · iexists _; isplitr; swap; · iexact H2
    ipureintro
    refine (read_stored _ _ _ _ _).trans ?_
    dsimp only
    rw [View.readAt_rep_full, View.readAt_rep_full]
  isplitl [H3]
  · iexists _; isplitr; swap; · iexact H3
    ipureintro
    refine (read_stored _ _ _ _ _).trans ?_
    dsimp only
    rw [View.readAt_rep_full, View.readAt_rep_full]
  iexact HO

theorem shared_run (c : Dev nD) (O : CellTallies nD τ sig (HIx 1)) (W : Waits sig (HIx 1))
    (m0 : Memref sig .tc .vmem S32x1024 .f32) (h0 : m0.IsWhole) (m1 : Memref sig .tc .vmem S1024x2048 .f32) (h1 : m1.IsWhole)
    (m2 : Memref sig .tc .vmem S1024x2048 .f32) (h2 : m2.IsWhole) (m3 : Memref sig .tc .vmem S2048x1024 .f32) (h3 : m3.IsWhole)
    (m4 : Memref sig .tc .vmem S32x1024 .f32) (h4 : m4.IsWhole)
    (x : S32x1024.Idx → Elt F .f32) (g u : S1024x2048.Idx → Elt F .f32) (dn : S2048x1024.Idx → Elt F .f32) (d4 : S32x1024.Idx → Elt F .f32)
    (Q : PUnit → sProp 𝕄) :
    iprop(owns (c : Thread nD τ) m0 fullShare x ∗ owns (c : Thread nD τ) m1 fullShare g ∗ owns (c : Thread nD τ) m2 fullShare u
        ∗ owns (c : Thread nD τ) m3 fullShare dn ∗ owns (c : Thread nD τ) m4 fullShare d4 ∗ owes (c : Thread nD τ) O W
        ∗ (iprop(owns (c : Thread nD τ) m0 fullShare x ∗ owns (c : Thread nD τ) m1 fullShare g ∗ owns (c : Thread nD τ) m2 fullShare u
            ∗ owns (c : Thread nD τ) m3 fullShare dn ∗ owns (c : Thread nD τ) m4 fullShare (k2_pay1 x g u dn) ∗ owes (c : Thread nD τ) O W) -∗ Q ⟨⟩))
      ⊢ wp frame (wpE (defs₀ (F := F)) 𝒱₀ c none) Set.univ (cc2__shared_body m0 h0 m1 h1 m2 h2 m3 h3 m4 h4) Q := by
  simp only [cc2__shared_body_eq_skeleton]
  unfold cc2__shared_body_skel
  rw [owns_eq_rep (c : Thread nD τ) m0 fullShare x, owns_eq_rep (c : Thread nD τ) m1 fullShare g, owns_eq_rep (c : Thread nD τ) m2 fullShare u,
    owns_eq_rep (c : Thread nD τ) m3 fullShare dn, owns_eq_rep (Val := Elt F) (c : Thread nD τ) m4 fullShare d4]
  unfold owns
  iintro ⟨H0, H1, H2, H3, H4, HO, Hk⟩
  sl_exec
  sl_step
  iapply Hk
  isplitl [H0]; · iexact H0
  isplitl [H1]; · iexact H1
  isplitl [H2]; · iexact H2
  isplitl [H3]; · iexact H3
  isplitl [H4]
  · iexists _; isplitr; swap; · iexact H4
    ipureintro
    refine (read_stored _ _ _ _ _).trans ?_
    rw [View.readAt_rep_full, View.readAt_rep_full, View.readAt_rep_full, View.readAt_rep_full]
  iexact HO

/-! ## The proof data -/

/-- The routing call's proof data, entered at the contents `W` of the device's buffers, the TensorCore owing `O`. -/
def dat0 (W : Valuation τ sig (Elt F)) (O : CellTallies nD τ sig (HIx 1)) (B : Set (SemLoc sig × HIx 1)) (c : Dev nD) : Dat τ (Elt F) (HIx 1) ℕ UU ℕ cfg0 c where
  A w := W (Proc.devRef .tc (Pipeline.arrRef spec0 w))
  after := fun
    | 0, _ => (at' W main_v0 : S32x1024.Idx → Elt F .f32)
    | 1, _ => (at' W main_arg1 : S1024x64.Idx → Elt F .f32)
    | 2, _ => routeIx (at' W main_v0) (at' W main_arg1)
    | 3, _ => routeW (at' W main_v0) (at' W main_arg1)
    | ⟨_ + 4, h⟩, _ => absurd h (Nat.not_lt.2 (Nat.le_add_left _ _))
  Φ _ := Pipeline.scopedRest spec0 c
  q _ := fullShare
  owed _ := O
  recorded _ := B

/-- The shared-expert call's. -/
def dat2 (W : Valuation τ sig (Elt F)) (O : CellTallies nD τ sig (HIx 1)) (B : Set (SemLoc sig × HIx 1)) (c : Dev nD) : Dat τ (Elt F) (HIx 1) ℕ UU ℕ cfg2 c where
  A w := W (Proc.devRef .tc (Pipeline.arrRef spec2 w))
  after := fun
    | 0, _ => (at' W main_v0 : S32x1024.Idx → Elt F .f32)
    | 1, _ => (at' W main_arg6 : S1024x2048.Idx → Elt F .f32)
    | 2, _ => (at' W main_arg7 : S1024x2048.Idx → Elt F .f32)
    | 3, _ => (at' W main_arg8 : S2048x1024.Idx → Elt F .f32)
    | 4, _ => k2_pay1 (at' W main_v0) (at' W main_arg6) (at' W main_arg7) (at' W main_arg8)
    | ⟨_ + 5, h⟩, _ => absurd h (Nat.not_lt.2 (Nat.le_add_left _ _))
  Φ _ := Pipeline.scopedRest spec2 c
  q _ := fullShare
  owed _ := O
  recorded _ := B

variable (W : Valuation τ sig (Elt F)) (O : CellTallies nD τ sig (HIx 1)) (B : Set (SemLoc sig × HIx 1)) (c : Dev nD)

/-- A block as large as its array is the array. -/
theorem block_all (b : Ref sig .tc) (f : b.ty.Contents (Elt F)) (ix : Fin b.ty.shape.rank → ℕ)
    (inb : ∀ a, (ix a + 1) * b.ty.shape.size a ≤ b.ty.shape.size a) :
    (fun y => f ((Rect.block (s := b.ty.shape) b.ty.shape.size ix inb).emb y)) = f :=
  View.readAt_full (Val := Elt F) (View.whole b) f _

theorem before0_0 (t : Fin cfg0.N) (d) : (dat0 W O B c).before 0 t d = at' W main_v0 := ((dat0 W O B c).before_fetched 0 t (fetch0_0 t) d).trans (block_all main_v0 (at' W main_v0) _ (fun _ => (Nat.one_mul _).le))
theorem before0_1 (t : Fin cfg0.N) (d) : (dat0 W O B c).before 1 t d = at' W main_arg1 := ((dat0 W O B c).before_fetched 1 t (fetch0_1 t) d).trans (block_all main_arg1 (at' W main_arg1) _ (fun _ => (Nat.one_mul _).le))
theorem before2_0 (t : Fin cfg2.N) (d) : (dat2 W O B c).before 0 t d = at' W main_v0 := ((dat2 W O B c).before_fetched 0 t (fetch2_0 t) d).trans (block_all main_v0 (at' W main_v0) _ (fun _ => (Nat.one_mul _).le))
theorem before2_1 (t : Fin cfg2.N) (d) : (dat2 W O B c).before 1 t d = at' W main_arg6 := ((dat2 W O B c).before_fetched 1 t (fetch2_1 t) d).trans (block_all main_arg6 (at' W main_arg6) _ (fun _ => (Nat.one_mul _).le))
theorem before2_2 (t : Fin cfg2.N) (d) : (dat2 W O B c).before 2 t d = at' W main_arg7 := ((dat2 W O B c).before_fetched 2 t (fetch2_2 t) d).trans (block_all main_arg7 (at' W main_arg7) _ (fun _ => (Nat.one_mul _).le))
theorem before2_3 (t : Fin cfg2.N) (d) : (dat2 W O B c).before 3 t d = at' W main_arg8 := ((dat2 W O B c).before_fetched 3 t (fetch2_3 t) d).trans (block_all main_arg8 (at' W main_arg8) _ (fun _ => (Nat.one_mul _).le))

/-! ## The body obligations -/

/-- The body table's rows at a point are the bodies as the point's lemmas spell them. -/
theorem row0 (t : Fin cfg0.N) : defs₀ (F := F) .tc cfg0.body (cfg0.bodyArgs t (cfg0.slots t)) = bodyAt0 t := by
  rfl
theorem row2 (t : Fin cfg2.N) : defs₀ (F := F) .tc cfg2.body (cfg2.bodyArgs t (cfg2.slots t)) = bodyAt2 t := by
  rfl

theorem body0 : BodyObligation (dat0 W O B c) (defs₀ (F := F)) 𝒱₀ (none : HIx 1) Set.univ := fun t => by
  rw [bigSep_W0, bigSep_W0, row0]
  unfold Dat.owesAt Pipeline.owesWithin
  rw [show (dat0 W O B c).Φ t.succ = (dat0 W O B c).Φ t.castSucc from rfl, show (dat0 W O B c).owed t.castSucc = O from rfl, show (dat0 W O B c).owed t.succ = O from rfl]
  iintro ⟨HΦ, ⟨%Wt, %hW, HO⟩, ⟨%d0, H0⟩, ⟨%d1, H1⟩, ⟨%d2, H2⟩, ⟨%d3, H3⟩⟩
  rw [before0_0, before0_1]
  iapply (route_run c O Wt (win0_0.stage (cfg0.slots t 0)) (hstage0_0 0) (win0_1.stage (cfg0.slots t 1)) (hstage0_1 0) (win0_2.stage (cfg0.slots t 2)) (hstage0_2 0) (win0_3.stage (cfg0.slots t 3)) (hstage0_3 0)
    (at' W main_v0) (at' W main_arg1) _ _ _)
  isplitl [H0]; · iexact H0
  isplitl [H1]; · iexact H1
  isplitl [H2]; · iexact H2
  isplitl [H3]; · iexact H3
  isplitl [HO]; · iexact HO
  iintro ⟨H0, H1, H2, H3, HO⟩
  isplitl [HΦ]; · iexact HΦ
  isplitl [HO]
  · iexists Wt; isplitr; · ipureintro; exact hW
    iexact HO
  isplitl [H0]; · iexact H0
  isplitl [H1]; · iexact H1
  isplitl [H2]; · iexact H2
  iexact H3

theorem body2 : BodyObligation (dat2 W O B c) (defs₀ (F := F)) 𝒱₀ (none : HIx 1) Set.univ := fun t => by
  rw [bigSep_W2, bigSep_W2, row2]
  unfold Dat.owesAt Pipeline.owesWithin
  rw [show (dat2 W O B c).Φ t.succ = (dat2 W O B c).Φ t.castSucc from rfl, show (dat2 W O B c).owed t.castSucc = O from rfl, show (dat2 W O B c).owed t.succ = O from rfl]
  iintro ⟨HΦ, ⟨%Wt, %hW, HO⟩, ⟨%d0, H0⟩, ⟨%d1, H1⟩, ⟨%d2, H2⟩, ⟨%d3, H3⟩, ⟨%d4, H4⟩⟩
  rw [before2_0, before2_1, before2_2, before2_3]
  iapply (shared_run c O Wt (win2_0.stage (cfg2.slots t 0)) (hstage2_0 0) (win2_1.stage (cfg2.slots t 1)) (hstage2_1 0) (win2_2.stage (cfg2.slots t 2)) (hstage2_2 0) (win2_3.stage (cfg2.slots t 3)) (hstage2_3 0)
    (win2_4.stage (cfg2.slots t 4)) (hstage2_4 0) (at' W main_v0) (at' W main_arg6) (at' W main_arg7) (at' W main_arg8) _ _)
  isplitl [H0]; · iexact H0
  isplitl [H1]; · iexact H1
  isplitl [H2]; · iexact H2
  isplitl [H3]; · iexact H3
  isplitl [H4]; · iexact H4
  isplitl [HO]; · iexact HO
  iintro ⟨H0, H1, H2, H3, H4, HO⟩
  isplitl [HΦ]; · iexact HΦ
  isplitl [HO]
  · iexists Wt; isplitr; · ipureintro; exact hW
    iexact HO
  isplitl [H0]; · iexact H0
  isplitl [H1]; · iexact H1
  isplitl [H2]; · iexact H2
  isplitl [H3]; · iexact H3
  iexact H4

end Cert.Proof.Moe

end
-- ==== Proof.Expert.lean ====
/-
  The expert call: its grid point's body run once against the two prefetched tables and the staged blocks, and the accumulator the
  64 points leave.
-/
module

public import proofs.«01_k».proof.Proof.Calls

@[expose] public section

noncomputable section

namespace Cert.Proof.Moe

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

/-! ## One point -/

/-- The table's word at a grid point. -/
abbrev wd (ids : S64.Idx → Elt F .i32) (i : grid3.Coords) : Elt F .i32 := ids fun | 0 => ⟨(i 0).val, (i 0).isLt⟩
/-- The one word of the count. -/
abbrev cnt (na : S1.Idx → Elt F .i32) : Elt F .i32 := na fun | 0 => ⟨0, Nat.one_pos⟩

theorem wd_eq (ids : S64.Idx → Elt F .i32) (i : grid3.Coords) (x : (Rect.unit (s := S64) (k3_off2 i) S1.size (k3_off2_inb i)).shape.Idx) :
    (View.whole main_v7).readAt (Elt F) (Rect.unit (s := S64) (k3_off2 i) S1.size (k3_off2_inb i)).toLoadRect ids x = wd (F := F) ids i := by
  show ids _ = ids _
  congr 1
  funext a
  obtain rfl : a = (0 : Fin 1) := Subsingleton.elim (α := Fin 1) _ _
  apply Fin.ext
  show k3_off2 i 0 + 1 * (x 0).val = (i 0).val
  have hx : (x 0).val < 1 := (x 0).isLt
  have hi : (i 0).val < 64 := (i 0).isLt
  have : k3_off2 i 0 = (i 0).val := by
    show (Scalar.indexCast (BitVec.ofNat 32 (i 0).val)).toNat = _
    show (BitVec.ofNat 32 (i 0).val).toNat = _
    rw [BitVec.toNat_ofNat]
    omega
  omega

theorem cnt_eq (na : S1.Idx → Elt F .i32) (x : (Rect.unit (s := S1) ![0] ![1] inb_S1_S1_0).shape.Idx) :
    (Memref.whole main_v4).view.readAt (Elt F) (Rect.unit (s := S1) ![0] ![1] inb_S1_S1_0).toLoadRect na x = cnt (F := F) na := by
  show na _ = na _
  congr 1
  funext a
  obtain rfl : a = (0 : Fin 1) := Subsingleton.elim (α := Fin 1) _ _
  apply Fin.ext
  show 0 + 1 * (x 0).val = 0
  have hx : (x 0).val < 1 := (x 0).isLt
  omega

/-- What a point leaves in the accumulator, from what the point before left there. -/
def stepOf (i : grid3.Coords) (ids : S64.Idx → Elt F .i32) (na : S1.Idx → Elt F .i32) (x : S32x1024.Idx → Elt F .f32)
    (g u : S1x1024x512.Idx → Elt F .f32) (dn : S1x512x1024.Idx → Elt F .f32) (tki : S32x2.Idx → Elt F .i32) (tkw : S32x2.Idx → Elt F .f32)
    (sh : S32x1024.Idx → Elt F .f32) (p : S32x1024.Idx → Elt F .f32) : S32x1024.Idx → Elt F .f32 :=
  let p' : S32x1024.Idx → Elt F .f32 := if k3_cond1 i = 1#1 then k3_pay1 sh else p
  if k3_cond2 i (cnt (F := F) na) = 1#1 then k3_pay2 (wd (F := F) ids i) x g u dn tki tkw p' else p'

theorem pay2_congr {a a' : Elt F .i32} {x x' : S32x1024.Idx → Elt F .f32} {g g' u u' : S1x1024x512.Idx → Elt F .f32}
    {dn dn' : S1x512x1024.Idx → Elt F .f32} {tki tki' : S32x2.Idx → Elt F .i32} {tkw tkw' : S32x2.Idx → Elt F .f32} {p p' : S32x1024.Idx → Elt F .f32}
    (ha : a = a') (hx : x = x') (hg : g = g') (hu : u = u') (hd : dn = dn') (hi : tki = tki') (hw : tkw = tkw') (hp : p = p') :
    k3_pay2 a x g u dn tki tkw p = k3_pay2 a' x' g' u' dn' tki' tkw' p' := by
  subst ha hx hg hu hd hi hw hp
  rfl

set_option maxHeartbeats 4000000 in
theorem expert_run (c : Dev nD) (O : CellTallies nD τ sig (HIx 1)) (W : Waits sig (HIx 1)) (i : grid3.Coords)
    (m3 : Memref sig .tc .vmem S32x1024 .f32) (h3 : m3.IsWhole) (m4 : Memref sig .tc .vmem S1x1024x512 .f32) (h4 : m4.IsWhole)
    (m5 : Memref sig .tc .vmem S1x1024x512 .f32) (h5 : m5.IsWhole) (m6 : Memref sig .tc .vmem S1x512x1024 .f32) (h6 : m6.IsWhole)
    (m7 : Memref sig .tc .vmem S32x2 .i32) (h7 : m7.IsWhole) (m8 : Memref sig .tc .vmem S32x2 .f32) (h8 : m8.IsWhole)
    (m9 : Memref sig .tc .vmem S32x1024 .f32) (h9 : m9.IsWhole) (m10 : Memref sig .tc .vmem S32x1024 .f32) (h10 : m10.IsWhole)
    (ids : S64.Idx → Elt F .i32) (na : S1.Idx → Elt F .i32) (x : S32x1024.Idx → Elt F .f32) (g u : S1x1024x512.Idx → Elt F .f32)
    (dn : S1x512x1024.Idx → Elt F .f32) (tki : S32x2.Idx → Elt F .i32) (tkw : S32x2.Idx → Elt F .f32) (sh p : S32x1024.Idx → Elt F .f32)
    (Q : PUnit → sProp 𝕄) :
    iprop(((Memref.whole main_v7).view.loc (c : Thread nD τ) ↦{fullShare} ids) ∗ ((Memref.whole main_v4).view.loc (c : Thread nD τ) ↦{fullShare} na)
        ∗ owns (c : Thread nD τ) m3 fullShare x ∗ owns (c : Thread nD τ) m4 fullShare g ∗ owns (c : Thread nD τ) m5 fullShare u
        ∗ owns (c : Thread nD τ) m6 fullShare dn ∗ owns (c : Thread nD τ) m7 fullShare tki ∗ owns (c : Thread nD τ) m8 fullShare tkw
        ∗ owns (c : Thread nD τ) m9 fullShare sh ∗ owns (c : Thread nD τ) m10 fullShare p ∗ owes (c : Thread nD τ) O W
        ∗ (iprop(((Memref.whole main_v7).view.loc (c : Thread nD τ) ↦{fullShare} ids) ∗ ((Memref.whole main_v4).view.loc (c : Thread nD τ) ↦{fullShare} na)
            ∗ owns (c : Thread nD τ) m3 fullShare x ∗ owns (c : Thread nD τ) m4 fullShare g ∗ owns (c : Thread nD τ) m5 fullShare u
            ∗ owns (c : Thread nD τ) m6 fullShare dn ∗ owns (c : Thread nD τ) m7 fullShare tki ∗ owns (c : Thread nD τ) m8 fullShare tkw
            ∗ owns (c : Thread nD τ) m9 fullShare sh ∗ owns (c : Thread nD τ) m10 fullShare (stepOf i ids na x g u dn tki tkw sh p)
            ∗ owes (c : Thread nD τ) O W) -∗ Q ⟨⟩))
      ⊢ wp frame (wpE (defs₀ (F := F)) 𝒱₀ c none) Set.univ
          (cc3__expert_body i (Memref.whole main_v7) (Memref.isWhole_whole _) (Memref.whole main_v4) (Memref.isWhole_whole _) m3 h3 m4 h4 m5 h5 m6 h6 m7 h7 m8 h8 m9 h9 m10 h10) Q := by
  simp only [cc3__expert_body_eq_skeleton]
  unfold cc3__expert_body_skel
  simp only [k3_part1_eq_skeleton]
  rw [owns_eq_rep (c : Thread nD τ) m3 fullShare x, owns_eq_rep (c : Thread nD τ) m4 fullShare g, owns_eq_rep (c : Thread nD τ) m5 fullShare u,
    owns_eq_rep (c : Thread nD τ) m6 fullShare dn, owns_eq_rep (Val := Elt F) (c : Thread nD τ) m7 fullShare tki,
    owns_eq_rep (Val := Elt F) (c : Thread nD τ) m8 fullShare tkw, owns_eq_rep (c : Thread nD τ) m9 fullShare sh,
    owns_eq_rep (Val := Elt F) (c : Thread nD τ) m10 fullShare p]
  unfold owns
  iintro ⟨HT, HN, H3, H4, H5, H6, H7, H8, H9, H10, HO, Hk⟩
  by_cases hc1 : k3_cond1 i = 1#1
  · rw [dif_pos hc1]
    sl_exec
    sl_step
    rw [wp_ret]
    imodintro
    beta_reduce
    by_cases hc2 : k3_cond2 i (cnt (F := F) na) = 1#1
    · rw [dif_pos ((congrArg (k3_cond2 i) (cnt_eq na _)).trans hc2)]
      sl_exec
      sl_step
      rw [wp_ret]
      imodintro
      beta_reduce
      sl_exec
      sl_step
      iapply Hk
      isplitl [HT]; · iexact HT
      isplitl [HN]; · iexact HN
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold stepOf
        simp only [if_pos hc1, if_pos hc2]
        refine (read_stored _ _ _ _ _).trans ?_
        exact pay2_congr (wd_eq ids i _) (View.readAt_rep_full m3.view x _) (View.readAt_rep_full m4.view g _) (View.readAt_rep_full m5.view u _)
          (View.readAt_rep_full m6.view dn _) (View.readAt_rep_full (Val := Elt F) m7.view tki _) (View.readAt_rep_full m8.view tkw _)
          ((View.readCov_full m10.view _ _ _ _).trans (congrArg k3_pay1 (View.readAt_rep_full m9.view sh _)))
      iexact HO
    · rw [dif_neg fun h => hc2 ((congrArg (k3_cond2 i) (cnt_eq na _)).symm.trans h)]
      sl_exec
      sl_step
      iapply Hk
      isplitl [HT]; · iexact HT
      isplitl [HN]; · iexact HN
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold stepOf
        simp only [if_pos hc1, if_neg hc2]
        refine (read_stored _ _ _ _ _).trans ?_
        exact congrArg k3_pay1 (View.readAt_rep_full m9.view sh _)
      iexact HO
  · rw [dif_neg hc1]
    sl_exec
    sl_step
    rw [wp_ret]
    imodintro
    beta_reduce
    by_cases hc2 : k3_cond2 i (cnt (F := F) na) = 1#1
    · rw [dif_pos ((congrArg (k3_cond2 i) (cnt_eq na _)).trans hc2)]
      sl_exec
      sl_step
      rw [wp_ret]
      imodintro
      beta_reduce
      sl_exec
      sl_step
      iapply Hk
      isplitl [HT]; · iexact HT
      isplitl [HN]; · iexact HN
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold stepOf
        simp only [if_neg hc1, if_pos hc2]
        refine (read_stored _ _ _ _ _).trans ?_
        exact pay2_congr (wd_eq ids i _) (View.readAt_rep_full m3.view x _) (View.readAt_rep_full m4.view g _) (View.readAt_rep_full m5.view u _)
          (View.readAt_rep_full m6.view dn _) (View.readAt_rep_full (Val := Elt F) m7.view tki _) (View.readAt_rep_full m8.view tkw _)
          (View.readAt_rep_full m10.view p _)
      iexact HO
    · rw [dif_neg fun h => hc2 ((congrArg (k3_cond2 i) (cnt_eq na _)).symm.trans h)]
      sl_exec
      sl_step
      iapply Hk
      isplitl [HT]; · iexact HT
      isplitl [HN]; · iexact HN
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · iexists _; isplitr; swap; · iexact H10
        ipureintro
        unfold stepOf
        simp only [if_neg hc1, if_neg hc2]
        exact View.read_rep _ _
      iexact HO

/-! ## The proof data -/

/-- Grid point `n`'s coordinates. -/
def crd (n : ℕ) : grid3.Coords := fun | 0 => ⟨n % 64, Nat.mod_lt _ (by decide)⟩

theorem coords_eq (t : Fin grid3.N) : grid3.coords t = crd t.val := by
  funext a
  obtain rfl : a = (0 : Fin 1) := Subsingleton.elim (α := Fin 1) _ _
  apply Fin.ext
  show t.val / grid3.stride 0 % 64 = t.val % 64
  rw [show grid3.stride 0 = 1 from by decide, Nat.div_one]

/-- One expert's matrix of a stack. -/
def slabU (f : S64x1024x512.Idx → Elt F .f32) (e : Fin 64) : S1x1024x512.Idx → Elt F .f32 := fun y => f fun | 0 => e | 1 => y 1 | 2 => y 2
def slabD (f : S64x512x1024.Idx → Elt F .f32) (e : Fin 64) : S1x512x1024.Idx → Elt F .f32 := fun y => f fun | 0 => e | 1 => y 1 | 2 => y 2

/-- The tables as the two functions they are. -/
abbrev idsT (a : (pcfg3 (F := F)).Adm) : S64.Idx → Elt F .i32 := a.1 0
abbrev cntT (a : (pcfg3 (F := F)).Adm) : S1.Idx → Elt F .i32 := a.1 1

theorem at_eq (pf : pre3.Contents (Elt F)) (i : grid3.Coords) :
    pf.at 0 (Rect.unit (s := S64) ![(Scalar.indexCast (BitVec.ofNat 32 (i 0).val)).toNat] S1.size (k3_off1_inb i)) numel1_S1 = wd (F := F) (pf 0) i := by
  show pf 0 _ = pf 0 _
  congr 1
  funext a
  obtain rfl : a = (0 : Fin 1) := Subsingleton.elim (α := Fin 1) _ _
  apply Fin.ext
  show (BitVec.ofNat 32 (i 0).val).toNat + 1 * 0 = (i 0).val
  have hi : (i 0).val < 64 := (i 0).isLt
  rw [BitVec.toNat_ofNat]
  omega

theorem atD_eq (pf : pre3.Contents (Elt F)) : pf.atD 1 ![0] = cnt (F := F) (pf 1) := by
  have h : ∀ x : Fin (pre3.ref 1).ty.shape.rank, (![0] : Fin 1 → ℕ) x + 1 ≤ (pre3.ref 1).ty.shape.size x := by decide
  refine (dif_pos h).trans ?_
  show pf 1 _ = pf 1 _
  congr 1
  funext a
  obtain rfl : a = (0 : Fin 1) := Subsingleton.elim (α := Fin 1) _ _
  rfl

theorem ix_word (pf : pre3.Contents (Elt F)) (i : grid3.Coords) : cc3_transform_1 k3_off1_inb numel1_S1 pf i 0 = (wd (F := F) (pf 0) i).toNat :=
  congrArg BitVec.toNat (at_eq pf i)

/-- The expert whose matrices a point is handed. -/
def eAt (a : (pcfg3 (F := F)).Adm) (i : grid3.Coords) : Fin 64 := ⟨(wd (F := F) (idsT a) i).toNat, by
  obtain ⟨h, _⟩ := a.2.1 i
  have h0 : (cc3_transform_1 k3_off1_inb numel1_S1 a.1 i 0 + 1) * 1 ≤ 64 := h 0
  have e : cc3_transform_1 k3_off1_inb numel1_S1 a.1 i 0 = (wd (F := F) (idsT a) i).toNat := ix_word a.1 i
  rw [e] at h0
  omega⟩

/-- What the first points leave in the accumulator. -/
def accOf (a : (pcfg3 (F := F)).Adm) (W : Valuation τ sig (Elt F)) : ℕ → S32x1024.Idx → Elt F .f32
  | 0 => stepOf (crd 0) (idsT a) (cntT a) (at' W main_v0) (slabU (at' W main_arg3) (eAt a (crd 0))) (slabU (at' W main_arg4) (eAt a (crd 0)))
      (slabD (at' W main_arg5) (eAt a (crd 0))) (at' W main_v1_0) (at' W main_v1_1) (at' W main_v5) (at' W main_v8)
  | n + 1 => stepOf (crd (n + 1)) (idsT a) (cntT a) (at' W main_v0) (slabU (at' W main_arg3) (eAt a (crd (n + 1)))) (slabU (at' W main_arg4) (eAt a (crd (n + 1))))
      (slabD (at' W main_arg5) (eAt a (crd (n + 1)))) (at' W main_v1_0) (at' W main_v1_1) (at' W main_v5) (accOf a W n)

variable (a : (pcfg3 (F := F)).Adm) (W : Valuation τ sig (Elt F)) (O : CellTallies nD τ sig (HIx 1)) (B : Set (SemLoc sig × HIx 1)) (c : Dev nD)

/-- The expert call's proof data, entered at `W` with the tables `a`. -/
def dat3 : Dat τ (Elt F) (HIx 1) ℕ UU ℕ (cfg3 a) c where
  A w := W (Proc.devRef .tc (Pipeline.arrRef spec3 w))
  after := fun
    | 0, _ => (at' W main_v0 : S32x1024.Idx → Elt F .f32)
    | 1, t => slabU (at' W main_arg3) (eAt a (grid3.coords t))
    | 2, t => slabU (at' W main_arg4) (eAt a (grid3.coords t))
    | 3, t => slabD (at' W main_arg5) (eAt a (grid3.coords t))
    | 4, _ => (at' W main_v1_0 : S32x2.Idx → Elt F .i32)
    | 5, _ => (at' W main_v1_1 : S32x2.Idx → Elt F .f32)
    | 6, _ => (at' W main_v5 : S32x1024.Idx → Elt F .f32)
    | 7, t => accOf a W t.val
    | ⟨_ + 8, h⟩, _ => absurd h (Nat.not_lt.2 (Nat.le_add_left _ _))
  Φ _ := iprop(iprop(Pipeline.scopedRest spec3 c ∗ emp) ∗ Pipeline.prefHeld pre3 c (fun _ => fullShare) a.1)
  q _ := fullShare
  owed _ := O
  recorded _ := B

theorem before3_0 (t : Fin (cfg3 a).N) (d) : (dat3 a W O B c).before 0 t d = at' W main_v0 :=
  ((dat3 a W O B c).before_in_eq_fetched 0 rfl (fun _ => rfl) (fun _ _ _ => rfl)
    (fun t => (block_all main_v0 (at' W main_v0) _ (hinb3 a.1 a.2 0 (grid3.coords t))).symm) t d).trans (block_all main_v0 (at' W main_v0) _ (hinb3 a.1 a.2 0 (grid3.coords t)))
theorem before3_4 (t : Fin (cfg3 a).N) (d) : (dat3 a W O B c).before 4 t d = at' W main_v1_0 :=
  ((dat3 a W O B c).before_in_eq_fetched 4 rfl (fun _ => rfl) (fun _ _ _ => rfl)
    (fun t => (block_all main_v1_0 (at' W main_v1_0) _ (hinb3 a.1 a.2 4 (grid3.coords t))).symm) t d).trans (block_all main_v1_0 (at' W main_v1_0) _ (hinb3 a.1 a.2 4 (grid3.coords t)))
theorem before3_5 (t : Fin (cfg3 a).N) (d) : (dat3 a W O B c).before 5 t d = at' W main_v1_1 :=
  ((dat3 a W O B c).before_in_eq_fetched 5 rfl (fun _ => rfl) (fun _ _ _ => rfl)
    (fun t => (block_all main_v1_1 (at' W main_v1_1) _ (hinb3 a.1 a.2 5 (grid3.coords t))).symm) t d).trans (block_all main_v1_1 (at' W main_v1_1) _ (hinb3 a.1 a.2 5 (grid3.coords t)))
theorem before3_6 (t : Fin (cfg3 a).N) (d) : (dat3 a W O B c).before 6 t d = at' W main_v5 :=
  ((dat3 a W O B c).before_in_eq_fetched 6 rfl (fun _ => rfl) (fun _ _ _ => rfl)
    (fun t => (block_all main_v5 (at' W main_v5) _ (hinb3 a.1 a.2 6 (grid3.coords t))).symm) t d).trans (block_all main_v5 (at' W main_v5) _ (hinb3 a.1 a.2 6 (grid3.coords t)))

theorem slab1 (t : Fin (cfg3 a).N) : slabU (at' W main_arg3) (eAt a (grid3.coords t)) = (dat3 a W O B c).blockOf 1 t := by
  funext y
  show at' W main_arg3 _ = at' W main_arg3 _
  congr 1
  funext k
  apply Fin.ext
  have hy : (y 0).val < 1 := (y 0).isLt
  match k with
  | 0 =>
    show (wd (F := F) (idsT a) (grid3.coords t)).toNat = cc3_transform_1 k3_off1_inb numel1_S1 a.1 (grid3.coords t) 0 * 1 + 1 * (y 0).val
    have e : cc3_transform_1 k3_off1_inb numel1_S1 a.1 (grid3.coords t) 0 = (wd (F := F) (idsT a) (grid3.coords t)).toNat := ix_word a.1 _
    have hy : (y 0).val < 1 := (y 0).isLt
    rw [e, Nat.lt_one_iff.mp hy]; omega
  | 1 => show (y 1).val = 0 * 1024 + 1 * (y 1).val; omega
  | 2 => show (y 2).val = 0 * 512 + 1 * (y 2).val; omega
theorem slab2 (t : Fin (cfg3 a).N) : slabU (at' W main_arg4) (eAt a (grid3.coords t)) = (dat3 a W O B c).blockOf 2 t := by
  funext y
  show at' W main_arg4 _ = at' W main_arg4 _
  congr 1
  funext k
  apply Fin.ext
  have hy : (y 0).val < 1 := (y 0).isLt
  match k with
  | 0 =>
    show (wd (F := F) (idsT a) (grid3.coords t)).toNat = cc3_transform_1 k3_off1_inb numel1_S1 a.1 (grid3.coords t) 0 * 1 + 1 * (y 0).val
    have e : cc3_transform_1 k3_off1_inb numel1_S1 a.1 (grid3.coords t) 0 = (wd (F := F) (idsT a) (grid3.coords t)).toNat := ix_word a.1 _
    have hy : (y 0).val < 1 := (y 0).isLt
    rw [e, Nat.lt_one_iff.mp hy]; omega
  | 1 => show (y 1).val = 0 * 1024 + 1 * (y 1).val; omega
  | 2 => show (y 2).val = 0 * 512 + 1 * (y 2).val; omega
theorem slab3 (t : Fin (cfg3 a).N) : slabD (at' W main_arg5) (eAt a (grid3.coords t)) = (dat3 a W O B c).blockOf 3 t := by
  funext y
  show at' W main_arg5 _ = at' W main_arg5 _
  congr 1
  funext k
  apply Fin.ext
  have hy : (y 0).val < 1 := (y 0).isLt
  match k with
  | 0 =>
    show (wd (F := F) (idsT a) (grid3.coords t)).toNat = cc3_transform_1 k3_off1_inb numel1_S1 a.1 (grid3.coords t) 0 * 1 + 1 * (y 0).val
    have e : cc3_transform_1 k3_off1_inb numel1_S1 a.1 (grid3.coords t) 0 = (wd (F := F) (idsT a) (grid3.coords t)).toNat := ix_word a.1 _
    have hy : (y 0).val < 1 := (y 0).isLt
    rw [e, Nat.lt_one_iff.mp hy]; omega
  | 1 => show (y 1).val = 0 * 512 + 1 * (y 1).val; omega
  | 2 => show (y 2).val = 0 * 1024 + 1 * (y 2).val; omega

theorem before3_1 (t : Fin (cfg3 a).N) (d) : (dat3 a W O B c).before 1 t d = slabU (at' W main_arg3) (eAt a (grid3.coords t)) :=
  ((dat3 a W O B c).before_in_eq_fetched 1 rfl (fun _ => rfl) (fun _ _ _ => rfl) (fun t => slab1 a W O B c t) t d).trans (slab1 a W O B c t).symm
theorem before3_2 (t : Fin (cfg3 a).N) (d) : (dat3 a W O B c).before 2 t d = slabU (at' W main_arg4) (eAt a (grid3.coords t)) :=
  ((dat3 a W O B c).before_in_eq_fetched 2 rfl (fun _ => rfl) (fun _ _ _ => rfl) (fun t => slab2 a W O B c t) t d).trans (slab2 a W O B c t).symm
theorem before3_3 (t : Fin (cfg3 a).N) (d) : (dat3 a W O B c).before 3 t d = slabD (at' W main_arg5) (eAt a (grid3.coords t)) :=
  ((dat3 a W O B c).before_in_eq_fetched 3 rfl (fun _ => rfl) (fun _ _ _ => rfl) (fun t => slab3 a W O B c t) t d).trans (slab3 a W O B c t).symm

/-! ## The accumulator through the points -/

theorem cond1_zero : k3_cond1 (crd 0) = 1#1 := by decide
theorem cond1_of_pos (n : ℕ) (h0 : n ≠ 0) (hn : n < 64) : k3_cond1 (crd n) ≠ 1#1 := by
  have : ∀ m : Fin 64, m.val ≠ 0 → k3_cond1 (crd m.val) ≠ 1#1 := by decide
  exact this ⟨n, hn⟩ h0

theorem acc_zero (p) : stepOf (crd 0) (idsT a) (cntT a) (at' W main_v0) (slabU (at' W main_arg3) (eAt a (crd 0))) (slabU (at' W main_arg4) (eAt a (crd 0)))
      (slabD (at' W main_arg5) (eAt a (crd 0))) (at' W main_v1_0) (at' W main_v1_1) (at' W main_v5) p = accOf a W 0 := by
  unfold accOf stepOf
  simp only [if_pos cond1_zero]

theorem acc_idle (n : ℕ) (h1 : k3_cond1 (crd (n + 1)) ≠ 1#1) (h2 : k3_cond2 (crd (n + 1)) (cnt (F := F) (cntT a)) ≠ 1#1) :
    accOf a W (n + 1) = accOf a W n := by
  rw [accOf]
  unfold stepOf
  simp only [if_neg h1, if_neg h2]

theorem idle7_iff (n : ℕ) : idle3 a.1 7 (crd n) = true ↔ k3_cond1 (crd n) ≠ 1#1 ∧ k3_cond2 (crd n) (cnt (F := F) (cntT a)) ≠ 1#1 := by
  show (!(k3_cond1 (crd n) == 1#1) && !(k3_cond2 (crd n) (a.1.atD 1 ![0]) == 1#1)) = true ↔ _
  rw [atD_eq]
  simp

theorem flush7 (t : Fin (cfg3 a).N) (h : t.val + 1 < 64) : ((cfg3 a).win 7).flush t = false := by
  unfold Pipeline.Window.flush
  rw [Bool.and_eq_false_iff]
  right
  have hN : (cfg3 a).grid.N = 64 := N_3
  rw [Bool.or_eq_false_iff]
  refine ⟨decide_eq_false (fun e => by have e' : t.val + 1 = (cfg3 a).grid.N := e; omega), decide_eq_false ?_⟩
  rintro ⟨_, h'⟩
  exact h' rfl

theorem fresh7 : ∀ n, n ≠ 0 → n < 64 → (cfg3 a).fresh 7 n = false
  | 0, h, _ => absurd rfl h
  | n + 1, _, h => by
    have hN : (cfg3 a).N = 64 := N_3
    rw [(cfg3 a).fresh_succ 7 n (by omega), flush7 a _ h, Bool.false_or]
    by_cases hn : n = 0
    · subst hn
      rw [Bool.and_eq_false_iff]; left
      rw [← Bool.not_eq_true]
      intro hi
      rw [show (cfg3 a).grid.coords ⟨0, _⟩ = crd 0 from coords_eq _] at hi
      exact ((idle7_iff a 0).mp hi).1 cond1_zero
    · rw [fresh7 n hn (by omega), Bool.and_false]

theorem before3_7 (t : Fin (cfg3 a).N) (h0 : t.val ≠ 0) (d) : (dat3 a W O B c).before 7 t d = accOf a W (t.val - 1) := by
  have hN : (cfg3 a).N = 64 := N_3
  have ht := t.isLt
  refine ((dat3 a W O B c).before_out_traj 7 rfl (fun _ _ => rfl) ?_ t.val t rfl d).trans ?_
  · intro t h0 hi _
    have ht := t.isLt
    rw [show (cfg3 a).grid.coords t = crd t.val from coords_eq t] at hi
    obtain ⟨h1, h2⟩ := (idle7_iff a _).mp hi
    show accOf a W t.val = accOf a W (t.val - 1)
    obtain ⟨m, hm⟩ : ∃ m, t.val = m + 1 := ⟨t.val - 1, by omega⟩
    rw [hm] at h1 h2 ⊢
    exact acc_idle a W m h1 h2
  · rw [fresh7 a t.val h0 (by omega), if_neg Bool.false_ne_true]
    rfl

end Cert.Proof.Moe

end
-- ==== Proof.ExpertBody.lean ====
/-
  The expert call's body obligation: every grid point runs the body once, and leaves the accumulator as the recursion says.
-/
module

public import proofs.«01_k».proof.Proof.Expert

@[expose] public section

noncomputable section

namespace Cert.Proof.Moe

open Cert.KernelIdeal Cert.KernelIdeal.Gen

open Idealize.ShloMosaic Idealize.ShloMosaic.Tactic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig (HIx 1) (Elt F) ℕ UU ℕ

variable (a : (pcfg3 (F := F)).Adm) (W : Valuation τ sig (Elt F)) (O : CellTallies nD τ sig (HIx 1)) (B : Set (SemLoc sig × HIx 1)) (c : Dev nD)

/-- The body table's row at a point. -/
theorem row3 (t : Fin (cfg3 a).N) (s : (w : Fin 8) → Fin (spec3 w).nbuf) : defs₀ (F := F) .tc (cfg3 a).body ((cfg3 a).bodyArgs t s)
    = cc3__expert_body (grid3.coords t) (Memref.whole main_v7) (Memref.isWhole_whole _) (Memref.whole main_v4) (Memref.isWhole_whole _)
        (spec3_0.stage (s 0)) (hstage3_0 ((s 0).cast nbuf3_0)) (spec3_1.stage (s 1)) (hstage3_1 ((s 1).cast nbuf3_1))
        (spec3_2.stage (s 2)) (hstage3_2 ((s 2).cast nbuf3_2)) (spec3_3.stage (s 3)) (hstage3_3 ((s 3).cast nbuf3_3))
        (spec3_4.stage (s 4)) (hstage3_4 ((s 4).cast nbuf3_4)) (spec3_5.stage (s 5)) (hstage3_5 ((s 5).cast nbuf3_5))
        (spec3_6.stage (s 6)) (hstage3_6 ((s 6).cast nbuf3_6)) (spec3_7.stage (s 7)) (hstage3_7 ((s 7).cast nbuf3_7)) := by
  rfl

theorem tables_eq : (Pipeline.prefHeld pre3 c (fun _ => fullShare) a.1 : sProp 𝕄)
    = iprop(((Memref.whole main_v7).view.loc (c : Thread nD τ) ↦{fullShare} idsT a) ∗ ((Memref.whole main_v4).view.loc (c : Thread nD τ) ↦{fullShare} cntT a)) := by
  unfold Pipeline.prefHeld
  exact bigSep_univ_eq_bigSepL [(0 : Fin 2), (1 : Fin 2)] (by decide) (by decide) _

/-- A point's step takes what the buffer holds to the recursion's value. -/
theorem step_before (t : Fin (cfg3 a).N) (d) : stepOf (grid3.coords t) (idsT a) (cntT a) (at' W main_v0) (slabU (at' W main_arg3) (eAt a (grid3.coords t)))
      (slabU (at' W main_arg4) (eAt a (grid3.coords t))) (slabD (at' W main_arg5) (eAt a (grid3.coords t))) (at' W main_v1_0) (at' W main_v1_1) (at' W main_v5)
      ((dat3 a W O B c).before 7 t d) = accOf a W t.val := by
  by_cases h0 : t.val = 0
  · rw [coords_eq, h0]
    exact acc_zero a W _
  · rw [before3_7 a W O B c t h0 d, coords_eq]
    obtain ⟨m, hm⟩ : ∃ m, t.val = m + 1 := ⟨t.val - 1, by omega⟩
    rw [hm]
    rfl

theorem owns_of_eq {s : Shape} {e : EltTy} (m : Memref sig .tc .vmem s e) {X Y : s.Idx → Elt F e} (h : X = Y) :
    (owns (c : Thread nD τ) m fullShare X : sProp 𝕄) ⊢ owns (c : Thread nD τ) m fullShare Y := by
  subst h
  exact .rfl

/-- What the obligation asks of the accumulator's buffer, from the recursion's value in it. -/
theorem post7 (t : Fin (cfg3 a).N) (m : Memref sig .tc .vmem S32x1024 .f32) :
    (owns (c : Thread nD τ) m fullShare (accOf a W t.val) : sProp 𝕄)
      ⊢ (match (cfg3 a).idle 7 ((cfg3 a).grid.coords t) with
          | true =>
            match ((cfg3 a).win 7).flush t with
            | false => iprop(∃ d, owns (c : Thread nD τ) m fullShare ((dat3 a W O B c).before 7 t d))
            | true => owns (c : Thread nD τ) m fullShare ((dat3 a W O B c).after 7 t)
          | false => owns (c : Thread nD τ) m fullShare ((dat3 a W O B c).after 7 t)) := by
  cases hi : (cfg3 a).idle 7 ((cfg3 a).grid.coords t)
  · exact .rfl
  · cases hf : ((cfg3 a).win 7).flush t
    · rw [show (cfg3 a).grid.coords t = crd t.val from coords_eq t] at hi
      obtain ⟨h1, h2⟩ := (idle7_iff a _).mp hi
      have h0 : t.val ≠ 0 := fun h => h1 (by rw [h]; exact cond1_zero)
      obtain ⟨k, hk⟩ : ∃ k, t.val = k + 1 := ⟨t.val - 1, by omega⟩
      iintro H
      iexists (at' W main_v8 : S32x1024.Idx → Elt F .f32)
      iapply (owns_of_eq c m (X := accOf a W t.val) (((before3_7 a W O B c t h0 _).trans
        (by rw [hk, Nat.add_sub_cancel, acc_idle a W k (by rw [← hk]; exact h1) (by rw [← hk]; exact h2)])).symm))
      iexact H
    · exact .rfl

theorem body3 : BodyObligation (dat3 a W O B c) (defs₀ (F := F)) 𝒱₀ (none : HIx 1) Set.univ := fun t => by
  rw [bigSep_W3, bigSep_W3, row3]
  unfold Dat.owesAt Pipeline.owesWithin
  rw [show (dat3 a W O B c).Φ t.succ = iprop(iprop(Pipeline.scopedRest spec3 c ∗ emp) ∗ Pipeline.prefHeld pre3 c (fun _ => fullShare) a.1) from rfl,
    show (dat3 a W O B c).Φ t.castSucc = iprop(iprop(Pipeline.scopedRest spec3 c ∗ emp) ∗ Pipeline.prefHeld pre3 c (fun _ => fullShare) a.1) from rfl,
    show (dat3 a W O B c).owed t.castSucc = O from rfl, show (dat3 a W O B c).owed t.succ = O from rfl, tables_eq]
  iintro ⟨⟨HΦ, HT, HN⟩, ⟨%Wt, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  iapply (expert_run c O Wt (grid3.coords t) (spec3_0.stage ((cfg3 a).slots t 0)) (hstage3_0 (((cfg3 a).slots t 0).cast nbuf3_0))
    (spec3_1.stage ((cfg3 a).slots t 1)) (hstage3_1 (((cfg3 a).slots t 1).cast nbuf3_1)) (spec3_2.stage ((cfg3 a).slots t 2)) (hstage3_2 (((cfg3 a).slots t 2).cast nbuf3_2))
    (spec3_3.stage ((cfg3 a).slots t 3)) (hstage3_3 (((cfg3 a).slots t 3).cast nbuf3_3)) (spec3_4.stage ((cfg3 a).slots t 4)) (hstage3_4 (((cfg3 a).slots t 4).cast nbuf3_4))
    (spec3_5.stage ((cfg3 a).slots t 5)) (hstage3_5 (((cfg3 a).slots t 5).cast nbuf3_5)) (spec3_6.stage ((cfg3 a).slots t 6)) (hstage3_6 (((cfg3 a).slots t 6).cast nbuf3_6))
    (spec3_7.stage ((cfg3 a).slots t 7)) (hstage3_7 (((cfg3 a).slots t 7).cast nbuf3_7))
    (idsT a) (cntT a) (at' W main_v0) (slabU (at' W main_arg3) (eAt a (grid3.coords t))) (slabU (at' W main_arg4) (eAt a (grid3.coords t)))
    (slabD (at' W main_arg5) (eAt a (grid3.coords t))) (at' W main_v1_0) (at' W main_v1_1) (at' W main_v5) ((dat3 a W O B c).before 7 t d7) _)
  isplitl [HT]; · iexact HT
  isplitl [HN]; · iexact HN
  isplitl [H0]; · iapply (owns_of_eq c _ (before3_0 a W O B c t d0)); iexact H0
  isplitl [H1]; · iapply (owns_of_eq c _ (before3_1 a W O B c t d1)); iexact H1
  isplitl [H2]; · iapply (owns_of_eq c _ (before3_2 a W O B c t d2)); iexact H2
  isplitl [H3]; · iapply (owns_of_eq c _ (before3_3 a W O B c t d3)); iexact H3
  isplitl [H4]; · iapply (owns_of_eq c _ (before3_4 a W O B c t d4)); iexact H4
  isplitl [H5]; · iapply (owns_of_eq c _ (before3_5 a W O B c t d5)); iexact H5
  isplitl [H6]; · iapply (owns_of_eq c _ (before3_6 a W O B c t d6)); iexact H6
  isplitl [H7]; · iexact H7
  isplitl [HO]; · iexact HO
  iintro ⟨HT, HN, H0, H1, H2, H3, H4, H5, H6, H7, HO⟩
  isplitl [HΦ HT HN]
  · isplitl [HΦ]; · iexact HΦ
    isplitl [HT]; · iexact HT
    iexact HN
  isplitl [HO]
  · iexists Wt; isplitr; · ipureintro; exact hW
    iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  refine BIBase.Entails.trans ?_ (post7 a W O B c t (((cfg3 a).win 7).stage ((cfg3 a).slots t 7)))
  exact owns_of_eq c _ (step_before a W O B c t d7)

end Cert.Proof.Moe

end
-- ==== Proof.Segment.lean ====
/-
  One kernel region of @main inside the SparseCore program: a TensorCore pallas_call run from every unscoped buffer held at a
  valuation, the core owing the SparseCore handshakes' units across it and every pair its waits have recorded kept in a
  bound.
-/
module

public import proofs.«01_k».proof.Proof.Calls
public import proofs.«01_k».proof.Proof.ExpertBody
public import Idealize.ShloMosaic.Lib.Pipeline.RegionArraysTS

@[expose] public section

noncomputable section

namespace Cert.Proof.Moe

open Cert.KernelIdeal Cert.KernelIdeal.Gen

open Idealize.ShloMosaic
open Idealize.ShloMosaic.Pipeline (Dat BodyObligation BodyObligationLoose RegionSeg arrRefs tblRefs ucRefs PLaunchFacts pin afterRegion arrRef scopedRest)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

variable (a : (p : Fin 3) → (pcfgs (F := F) p).Adm)
  (pdats : (p : Fin 3) → (c : Dev nD) → Dat τ (Elt F) (HIx 1) ℕ UU ℕ (pin (pcfgs (F := F)) a p) c)
  (p : Fin 3) (O : Dev nD → CellTallies nD τ sig (HIx 1)) (B : Dev nD → Set (SemLoc sig × HIx 1))
  (W : Dev nD → Valuation τ sig (Elt F))

/-- What the core owes, its recorded pairs within the bound. -/
abbrev owing (c : Dev nD) : sProp 𝕄 := iprop(∃ Wd, ⌜↑Wd ⊆ B c⌝ ∗ owes (c : Thread nD τ) (O c) Wd)

/-- The tables a region prefetches, as its proof data name them. -/
abbrev tbls (c : Dev nD) : sProp 𝕄 := Pipeline.prefHeld (pcfgs (F := F) p).pre c (fun _ => fullShare) (a p).1

/-- What a region's account of itself consists of. -/
structure Ready : Prop where
  kit : PLaunchFacts (nD := nD) (τ := τ) (pcfgs (F := F)) p
  body : ∀ c, BodyObligation (pdats p c) (defs₀ (F := F)) 𝒱₀ (none : HIx 1) Set.univ
  owed : ∀ c t, (pdats p c).owed t = O c
  recorded : ∀ c t, (pdats p c).recorded t = B c
  none_mem : ∀ c sm, (sm, (none : HIx 1)) ∈ B c
  stages : ∀ c g, O c g none = 0
  share : ∀ c w, (pdats p c).share w = fullShare
  inv_in : ∀ c t, iprop(scopedRest (pin (pcfgs (F := F)) a p).spec c ∗ tbls a p c) ⊢ (pdats p c).Φ t
  inv_out : ∀ c t, (pdats p c).Φ t ⊢ iprop(scopedRest (pin (pcfgs (F := F)) a p).spec c ∗ tbls a p c)
  arrays : ∀ c w, (pdats p c).arrAt w 0 = W c (Proc.devRef .tc (arrRef (pin (pcfgs (F := F)) a p).spec w))
  tables : ∀ c k, (a p).1 k = W c (Proc.devRef .tc ((pcfgs (F := F) p).pre.ref k))

variable {a pdats p O B W}

variable (h : Ready a pdats p O B W)
include h

theorem held_split3 (W' : Valuation τ sig (Elt F)) (c : Dev nD) :
    (StableHlo.held (c.tc : Thread nD τ) (ucRefs τ sig) W' : sProp 𝕄)
      = iprop(StableHlo.held (c.tc : Thread nD τ) (arrRefs (pcfgs (F := F) p).spec) W'
        ∗ (StableHlo.held (c.tc : Thread nD τ) (tblRefs (pcfgs (F := F) p).pre) W'
          ∗ StableHlo.held (c.tc : Thread nD τ) ((ucRefs τ sig \ arrRefs (pcfgs (F := F) p).spec) \ tblRefs (pcfgs (F := F) p).pre) W')) := by
  rw [StableHlo.held_sub_split (c.tc : Thread nD τ) (Pipeline.arrRefs_sub_ucRefs _ h.kit.win.arr_unscoped) W',
    StableHlo.held_sub_split (c.tc : Thread nD τ) (Pipeline.tblRefs_sub_ucRefs_sdiff _ _ h.kit.pre.unscoped h.kit.pre.disj) W']

theorem arrays_at (c : Dev nD) (W' : Valuation τ sig (Elt F)) (n : ℕ)
    (hG : ∀ w, (pdats p c).arrAt w n = W' (Proc.devRef .tc (arrRef (pin (pcfgs (F := F)) a p).spec w))) :
    ((pdats p c).arrays ((pdats p c).arrAt · n) : sProp 𝕄) = StableHlo.held (c.tc : Thread nD τ) (arrRefs (pcfgs (F := F) p).spec) W' :=
  Pipeline.arrays_held (pcfgs (F := F)) a pdats p h.kit c (h.share c) _ W' hG

theorem tables_at (c : Dev nD) (W' : Valuation τ sig (Elt F)) (hT : ∀ k, (a p).1 k = W' (Proc.devRef .tc ((pcfgs (F := F) p).pre.ref k))) :
    (Pipeline.prefHeld (pcfgs (F := F) p).pre c (fun _ => fullShare) (a p).1 : sProp 𝕄) = StableHlo.held (c.tc : Thread nD τ) (tblRefs (pcfgs (F := F) p).pre) W' :=
  Pipeline.prefHeld_held _ h.kit.pre.inj c _ W' hT

theorem tbls_at (c : Dev nD) (W' : Valuation τ sig (Elt F)) (hT : ∀ k, (a p).1 k = W' (Proc.devRef .tc ((pcfgs (F := F) p).pre.ref k))) :
    (tbls a p c : sProp 𝕄) = StableHlo.held (c.tc : Thread nD τ) (tblRefs (pcfgs (F := F) p).pre) W' := tables_at h c W' hT

theorem after_tables (c : Dev nD) (k) : (a p).1 k = afterRegion (pdats p c) (W c) (Proc.devRef .tc ((pcfgs (F := F) p).pre.ref k)) :=
  (h.tables c k).trans (Pipeline.afterRegion_of_not_arr (pdats p c) (W c) (h.kit.pre.disj k)).symm

theorem after_rest (c : Dev nD) :
    (StableHlo.held (c.tc : Thread nD τ) ((ucRefs τ sig \ arrRefs (pcfgs (F := F) p).spec) \ tblRefs (pcfgs (F := F) p).pre) (afterRegion (pdats p c) (W c)) : sProp 𝕄)
      = StableHlo.held (c.tc : Thread nD τ) ((ucRefs τ sig \ arrRefs (pcfgs (F := F) p).spec) \ tblRefs (pcfgs (F := F) p).pre) (W c) :=
  StableHlo.held_congr _ fun b hb => Pipeline.afterRegion_off (pdats p c) (W c) (ucRefs τ sig) b (Finset.mem_sdiff.mp hb).1

theorem owing_in (c : Dev nD) (t) : owing O B c ⊢ ((pdats p c).owesAt (none : HIx 1) t : sProp 𝕄) := by
  unfold Dat.owesAt Pipeline.owesWithin Dat.bound
  rw [h.owed c t, h.recorded c t]
  iintro ⟨%Wd, %hW, HO⟩; iexists Wd
  isplitr; · ipureintro; exact fun x hx => Or.inl (hW hx)
  iexact HO

theorem owing_out (c : Dev nD) (t) : ((pdats p c).owesAt (none : HIx 1) t : sProp 𝕄) ⊢ owing O B c := by
  unfold Dat.owesAt Pipeline.owesWithin Dat.bound
  rw [h.owed c t, h.recorded c t]
  iintro ⟨%Wd, %hW, HO⟩; iexists Wd
  isplitr
  · ipureintro; intro x hx
    rcases hW hx with hx | ⟨w, s, rfl⟩
    · exact hx
    · exact h.none_mem c _
  iexact HO

/-- The region's record. -/
def Ready.seg : RegionSeg (pcfgs (F := F)) a pdats (none : HIx 1) (defs₀ (F := F)) 𝒱₀ (K (F := F)).L (K (F := F)).lev p where
  win := h.kit.to₀.win
  block_pos := h.kit.block_pos
  stage_whole := h.kit.stage_whole
  K := PEmpty
  osem k := k.elim
  ho := Pipeline.OwnSemFacts.none _
  hbody c := (h.body c).loose
  hwaits c := Pipeline.cellsWaits_of_cut (pin (pcfgs (F := F)) a) pdats (none : HIx 1) p c 0 (O c) (h.owed c) (fun _ _ => Finset.mem_univ _) (fun _ _ => le_rfl)
    fun g i hg => ⟨Finset.mem_univ _, by
      cases i with
      | none => rw [h.stages c g] at hg; exact absurd hg (Nat.lt_irrefl 0)
      | some q => exact (K (F := F)).lev_some_pos g q⟩
  pre c := iprop(StableHlo.held (c.tc : Thread nD τ) (ucRefs τ sig) (W c) ∗ owing O B c)
  post c := iprop(StableHlo.held (c.tc : Thread nD τ) (ucRefs τ sig) (afterRegion (pdats p c) (W c)) ∗ owing O B c)
  X _ := iprop(emp)
  Y c := tbls a p c
  Z c := StableHlo.held (c.tc : Thread nD τ) ((ucRefs τ sig \ arrRefs (pcfgs (F := F) p).spec) \ tblRefs (pcfgs (F := F) p).pre) (W c)
  hentry c := by
    rw [Pipeline.ownSems0_none, held_split3 h, arrays_at h c (W c) 0 (h.arrays c), tables_at h c (W c) (h.tables c)]
    iintro ⟨⟨⟨Ha, Ht, Hr⟩, HO⟩, -, -⟩
    imodintro
    isplitl [Ha]; · iexact Ha
    isplitl [Ht]; · iexact Ht
    isplitl [HO]; · iapply (owing_in h c 0); iexact HO
    isplitr; · iempintro
    iexact Hr
  hin c := by
    refine BIBase.Entails.trans ?_ (h.inv_in c 0)
    iintro ⟨-, Ht, Hr⟩
    isplitl [Hr] <;> iassumption
  hout c := by
    rw [Pipeline.ownSems0_none]
    refine (h.inv_out c _).trans ?_
    iintro ⟨Hr, Ht⟩
    isplitl [Ht]; · iexact Ht
    isplitr; · iempintro
    iexact Hr
  hexit c := by
    rw [arrays_at h c (afterRegion (pdats p c) (W c)) _ (fun w => (Pipeline.afterRegion_arr (pdats p c) (W c) h.kit.win.arr_inj w).symm),
      tbls_at h c (afterRegion (pdats p c) (W c)) (after_tables h c), held_split3 h (afterRegion (pdats p c) (W c)) c, after_rest h c]
    iintro ⟨Ha, HO, Ht, Hr⟩
    imodintro
    isplitl [Ha Ht Hr]
    · isplitl [Ha]; · iexact Ha
      isplitl [Ht] <;> iassumption
    iapply (owing_out h c _); iexact HO

theorem Ready.seg_pre (c : Dev nD) : h.seg.pre c = iprop(StableHlo.held (c.tc : Thread nD τ) (ucRefs τ sig) (W c) ∗ owing O B c) := rfl
theorem Ready.seg_post (c : Dev nD) :
    h.seg.post c = iprop(StableHlo.held (c.tc : Thread nD τ) (ucRefs τ sig) (afterRegion (pdats p c) (W c)) ∗ owing O B c) := rfl

/-- The region run inside the SparseCore program. -/
theorem Ready.run (c : Dev nD) (Q : PUnit → sProp 𝕄) :
    iprop((iprop(boundary (c.tc : Thread nD τ) ∗ StableHlo.held (c.tc : Thread nD τ) (ucRefs τ sig) (afterRegion (pdats p c) (W c)) ∗ owing O B c) -∗ Q ⟨⟩)
        ∗ boundary (c.tc : Thread nD τ) ∗ (StableHlo.held (c.tc : Thread nD τ) (ucRefs τ sig) (W c) ∗ owing O B c) ∗ levAts (K (F := F)).L (K (F := F)).lev
        ∗ Pipeline.cellsGhost (pin (pcfgs (F := F)) a) EP p c ∗ Pipeline.toksInit (pin (pcfgs (F := F)) a) EP p c)
      ⊢ wp frame (wpE ((K (F := F)).defs (D (F := F))) 𝒱 (T c) none) Set.univ (Prog.lift (.customCall (SparseCore.inner (Pipeline.entry p)) ())) Q := by
  refine BIBase.Entails.trans ?_ ((K (F := F)).wp_liftProg (D (F := F)) 𝒱 (T c) Set.univ none (Prog.lift (.customCall (Pipeline.entry p) ())) Q)
  have key := (RegionSeg.wp (pcfgs (F := F)) a pdats (none : HIx 1) (cellOf_inj a) EP (defs₀ (F := F)) 𝒱₀ (K (F := F)).L (K (F := F)).lev h.seg c none
    (fun _ hu => nomatch hu) (fun _ => .ret ⟨⟩) Q)
  rw [h.seg_pre, h.seg_post] at key
  refine BIBase.Entails.trans ?_ key
  iintro ⟨Hk, Hb, Hp, Hl, Hg, Ht⟩
  isplitl [Hk]
  · iintro ⟨Hb, Hp⟩
    rw [wp_ret]; imodintro
    iapply Hk
    isplitl [Hb]; · iexact Hb
    iexact Hp
  isplitl [Hb]; · iexact Hb
  isplitl [Hp]; · iexact Hp
  isplitl [Hl]; · iexact Hl
  isplitl [Hg] <;> iassumption

end Cert.Proof.Moe

end
-- ==== Proof.Compact.lean ====
/-
  The compaction's arithmetic, apart from the machine: running sums and running maxima of a chunk of 0/1 flags, and the two indexed
  stores, against counting and enumerating the numbers below 64 at which a predicate holds (`Nat.count`, `pick`).
-/
module

public import proofs.«01_k».proof.Proof.Common

@[expose] public section

noncomputable section

namespace Cert.Proof.Moe

open Cert.KernelIdeal Cert.KernelIdeal.Gen
open Idealize.ShloMosaic

abbrev ln (k : Fin 16) : S16.Idx := Shape.ofLane (d := ![16]) k

theorem ln_zero (k : Fin 16) : (ln k) 0 = k := rfl
theorem eq_ln (x : S16.Idx) : x = ln (x 0) := by
  funext a
  match a with
  | ⟨0, _⟩ => rfl

/-! ## Folds over the lanes -/

theorem foldl_finRange_inv {β : Type} {n : ℕ} (Inv : ℕ → β → Prop) (f : β → Fin n → β) (b : β) (h0 : Inv 0 b)
    (hs : ∀ (k : Fin n) g, Inv k g → Inv (k + 1) (f g k)) : Inv n ((List.finRange n).foldl f b) := by
  suffices H : ∀ m (hm : m ≤ n), Inv m (((List.finRange n).take m).foldl f b) by
    have := H n le_rfl
    rwa [List.take_of_length_le (by simp)] at this
  intro m
  induction m with
  | zero => intro _; simpa using h0
  | succ m ih =>
    intro hm
    have hlt : m < (List.finRange n).length := by simpa using hm
    rw [List.take_succ_eq_append_getElem hlt, List.foldl_append]
    have := hs ⟨m, hm⟩ _ (ih (by omega))
    simpa using this

theorem scan_zero (kind : ScanKind) (v : IVec S16 32) : scan kind v (ln 0) = v (ln 0) := rfl

theorem scan_succ (kind : ScanKind) (v : IVec S16 32) (j : ℕ) (hj : j + 1 < 16) :
    scan kind v (ln ⟨j + 1, hj⟩) = kind.step (scan kind v (ln ⟨j, by omega⟩)) (v (ln ⟨j + 1, hj⟩)) := by
  have : j < 15 := by omega
  interval_cases j <;> rfl

/-! ## Counting -/

variable {P : ℕ → Prop} [DecidablePred P] {k : ℕ} {v : IVec S16 32}

/-- One more than the last number below `n` at which `P` holds; 0 when there is none. -/
def lastUp (P : ℕ → Prop) [DecidablePred P] : ℕ → ℕ
  | 0 => 0
  | n + 1 => if P n then n + 1 else lastUp P n

theorem lastUp_le (n : ℕ) : lastUp P n ≤ n := by
  induction n with
  | zero => simp [lastUp]
  | succ n ih => rw [lastUp]; split <;> omega

/-- The flags of the sixteen numbers from `k`. -/
def IsFlags (P : ℕ → Prop) [DecidablePred P] (k : ℕ) (v : IVec S16 32) : Prop :=
  ∀ j : Fin 16, v (ln j) = if P (k + j) then 1#32 else 0#32

theorem scan_flags (hv : IsFlags P k v) (j : ℕ) (hj : j < 16) :
    scan .sum v (ln ⟨j, hj⟩) = BitVec.ofNat 32 (Nat.count P (k + j + 1) - Nat.count P k) := by
  induction j with
  | zero =>
    rw [show (⟨0, hj⟩ : Fin 16) = 0 from rfl, scan_zero, hv 0, Nat.count_succ]
    simp only [Fin.val_zero, add_zero]
    split <;> simp
  | succ j ih =>
    rw [scan_succ, ih (by omega), hv]
    have hmono : Nat.count P k ≤ Nat.count P (k + j + 1) := Nat.count_monotone P (by omega)
    show BitVec.ofNat 32 _ + (if P (k + (j + 1)) then _ else _) = _
    rw [show k + (j + 1) + 1 = (k + j + 1) + 1 from rfl, show k + (j + 1) = k + j + 1 from rfl, Nat.count_succ P (k + j + 1)]
    generalize Nat.count P (k + j + 1) = c at *
    split
    · rw [Nat.sub_add_comm hmono]; simp [BitVec.ofNat_add]
    · simp

/-- The number in front of lane `j`: the running sum less the lane's own flag, on top of what the earlier chunks hold. -/
theorem rank_flags (hv : IsFlags P k v) (j : Fin 16) (b : BitVec 32) (hb : b = BitVec.ofNat 32 (Nat.count P k)) :
    scan .sum v (ln j) - v (ln j) + b = BitVec.ofNat 32 (Nat.count P (k + j)) := by
  rw [show scan .sum v (ln j) = _ from scan_flags hv j.val j.isLt, hv, hb, Nat.count_succ]
  have hmono : Nat.count P k ≤ Nat.count P (k + j) := Nat.count_monotone P (by omega)
  obtain ⟨c, hc⟩ := Nat.exists_eq_add_of_le hmono
  rw [hc]
  split
  · rw [show Nat.count P k + c + 1 - Nat.count P k = c + 1 by omega, BitVec.ofNat_add, BitVec.ofNat_add,
      BitVec.add_sub_cancel, BitVec.add_comm]
  · simp only [add_zero, show Nat.count P k + c - Nat.count P k = c by omega, BitVec.ofNat_add, BitVec.sub_zero]
    rw [BitVec.add_comm]

theorem total_flags (hv : IsFlags P k v) (b : BitVec 32) (hb : b = BitVec.ofNat 32 (Nat.count P k)) :
    b + scan .sum v (ln 15) = BitVec.ofNat 32 (Nat.count P (k + 16)) := by
  rw [show scan .sum v (ln 15) = _ from scan_flags hv 15 (by omega), hb]
  have hmono : Nat.count P k ≤ Nat.count P (k + 15 + 1) := Nat.count_monotone P (by omega)
  rw [← BitVec.ofNat_add, Nat.add_sub_cancel' hmono]

/-! ## The last one -/

/-- The chunk's numbers where the flag is set and −1 elsewhere, with the sign bit turned. -/
def IsTurned (P : ℕ → Prop) [DecidablePred P] (k : ℕ) (v : IVec S16 32) : Prop :=
  ∀ j : Fin 16, v (ln j) = (if P (k + j) then BitVec.ofNat 32 (k + j) else 4294967295#32) ^^^ 2147483648#32

theorem turned_toNat (n : ℕ) (hn : n < 64) : (BitVec.ofNat 32 n ^^^ 2147483648#32).toNat = 2147483648 + n := by
  interval_cases n <;> rfl

theorem lastUp_from : lastUp (fun n => k ≤ n ∧ P n) k = 0 := by
  have : ∀ n ≤ k, lastUp (fun n => k ≤ n ∧ P n) n = 0 := by
    intro n
    induction n with
    | zero => intro _; rfl
    | succ n ih => intro hn; rw [lastUp, if_neg (by omega), ih (by omega)]
  exact this k le_rfl

theorem lastUp_join (m : ℕ) : max (lastUp P k) (lastUp (fun n => k ≤ n ∧ P n) (k + m)) = lastUp P (k + m) := by
  induction m with
  | zero => rw [add_zero, lastUp_from]; omega
  | succ m ih =>
    have h1 := lastUp_le (P := P) k
    rw [← add_assoc, lastUp, lastUp]
    by_cases hp : P (k + m)
    · rw [if_pos ⟨by omega, hp⟩, if_pos hp]; omega
    · rw [if_neg (fun h => hp h.2), if_neg hp, ih]

/-- A running maximum of such a chunk: the sign bit's weight and the last set lane from the chunk's start, or one below that weight. -/
theorem scan_turned (hk : k + 16 ≤ 64) (hv : IsTurned P k v) (j : ℕ) (hj : j < 16) :
    (scan .max v (ln ⟨j, hj⟩)).toNat = 2147483647 + lastUp (fun n => k ≤ n ∧ P n) (k + j + 1) := by
  have one : ∀ i : Fin 16, (v (ln i)).toNat = if P (k + i) then 2147483648 + (k + i) else 2147483647 := by
    intro i
    rw [hv]
    split
    · exact turned_toNat _ (by omega)
    · rfl
  induction j with
  | zero =>
    rw [show (⟨0, hj⟩ : Fin 16) = 0 from rfl, scan_zero, one, lastUp]
    simp only [Fin.val_zero, add_zero, le_refl, true_and, lastUp_from]
    split <;> omega
  | succ j ih =>
    rw [scan_succ]
    have h1 := ih (by omega)
    have h2 := one ⟨j + 1, hj⟩
    have h3 := lastUp_le (P := fun n => k ≤ n ∧ P n) (k + j + 1)
    show (IntOp.maxui _ _).toNat = _
    have h4 : lastUp (fun n => k ≤ n ∧ P n) (k + (j + 1) + 1)
        = if k ≤ k + j + 1 ∧ P (k + j + 1) then k + j + 1 + 1 else lastUp (fun n => k ≤ n ∧ P n) (k + j + 1) := rfl
    rw [h4]
    simp only [show k + ((⟨j + 1, hj⟩ : Fin 16) : ℕ) = k + j + 1 from rfl] at h2
    unfold IntOp.maxui
    simp only [BitVec.ult, decide_eq_true_eq]
    by_cases hp : P (k + j + 1)
    · rw [if_pos hp] at h2
      rw [if_pos (show k ≤ k + j + 1 ∧ P (k + j + 1) from ⟨by omega, hp⟩)]
      split <;> omega
    · rw [if_neg hp] at h2
      rw [if_neg (show ¬(k ≤ k + j + 1 ∧ P (k + j + 1)) from fun h => hp h.2)]
      split <;> omega

theorem turn_back (x : BitVec 32) (n : ℕ) (hn : n ≤ 64) (hx : x.toNat = 2147483647 + n) : x ^^^ 2147483648#32 = BitVec.ofNat 32 n - 1#32 := by
  have hx' : x = BitVec.ofNat 32 (2147483647 + n) := by rw [← hx]; simp
  subst hx'
  interval_cases n <;> rfl

theorem maxsi_ofNat (a b : ℕ) (ha : a ≤ 64) (hb : b ≤ 64) :
    Scalar.maxsi (BitVec.ofNat 32 a - 1#32) (BitVec.ofNat 32 b - 1#32) = BitVec.ofNat 32 (max a b) - 1#32 := by
  have key : ∀ n ≤ 64, (BitVec.ofNat 32 n - 1#32).toInt = (n : ℤ) - 1 := by
    intro n hn
    interval_cases n <;> rfl
  unfold Scalar.maxsi IntOp.maxsi
  simp only [BitVec.slt, key a ha, key b hb, decide_eq_true_eq]
  split
  · rw [max_eq_left (by omega)]
  · rw [max_eq_right (by omega)]

/-- One chunk's step of the running last: what is known below `k`, and the chunk's. -/
theorem last_turned (hk : k + 16 ≤ 64) (hv : IsTurned P k v) (b : BitVec 32) (hb : b = BitVec.ofNat 32 (lastUp P k) - 1#32) :
    Scalar.maxsi b (scan .max v (ln 15) ^^^ 2147483648#32) = BitVec.ofNat 32 (lastUp P (k + 16)) - 1#32 := by
  have h : (scan .max v (ln 15)).toNat = _ := scan_turned hk hv 15 (by omega)
  have h1 := lastUp_le (P := fun n => k ≤ n ∧ P n) (k + 15 + 1)
  have h2 := lastUp_le (P := P) k
  rw [turn_back _ _ (by omega) h, hb, maxsi_ofNat _ _ (by omega) (by omega), ← lastUp_join (P := P) (k := k) 16]

/-! ## The printed operations on a chunk -/

theorem sgt_zero (x : BitVec 32) : IntOp.cmpi .sgt x 0#32 = 1#1 ↔ 0 < x.toInt := by
  unfold IntOp.cmpi
  simp only [BitVec.slt, BitVec.toInt_zero]
  by_cases h : 0 < x.toInt <;> simp [h]

/-- What a table of counts says of `P`: small, and positive exactly where `P` holds. -/
def Counts (P : ℕ → Prop) (b : ℕ) (A : S64.Idx → BitVec 32) : Prop := ∀ e, (A e).toNat ≤ b ∧ (0 < (A e).toNat ↔ P (e 0).val)

/-- The sixteen entries of a table of 64 from `k`. -/
abbrev at64 (k : ℕ) (hk : k + 16 ≤ 64) (j : Fin 16) : S64.Idx := Shape.ofLane (d := ![64]) (⟨k + j, by omega⟩ : Fin 64)

theorem pos_toInt (x : BitVec 32) (h : x.toNat ≤ 64) : 0 < x.toInt ↔ 0 < x.toNat := by
  rw [BitVec.toInt_eq_toNat_of_lt (by omega)]; omega

/-- A chunk of a table of 64 words. -/
def IsChunk (k : ℕ) (hk : k + 16 ≤ 64) (A : S64.Idx → BitVec 32) (c : IVec S16 32) : Prop := ∀ j : Fin 16, c (ln j) = A (at64 k hk j)

theorem mask_iff {hk : k + 16 ≤ 64} {A : S64.Idx → BitVec 32} {c : IVec S16 32} (hA : Counts P 64 A) (hc : IsChunk k hk A c) (j : Fin 16) :
    cmpi .sgt c (broadcast S16 0#32) (ln j) = 1#1 ↔ P (k + j) := by
  show IntOp.cmpi .sgt (c (ln j)) 0#32 = 1#1 ↔ _
  rw [sgt_zero, hc, pos_toInt _ (hA _).1]
  exact (hA _).2

theorem select_ln {α : Type} (m : IVec S16 1) (a b : S16.Idx → α) (j : Fin 16) :
    select m a b (ln j) = if m (ln j) = 1#1 then a (ln j) else b (ln j) := rfl

theorem flags_of {hk : k + 16 ≤ 64} {A : S64.Idx → BitVec 32} {c : IVec S16 32} (hA : Counts P 64 A) (hc : IsChunk k hk A c) :
    IsFlags P k (select (cmpi .sgt c (broadcast S16 0#32)) (broadcast S16 1#32) (broadcast S16 0#32)) := by
  intro j
  have h := mask_iff hA hc j
  rw [select_ln]
  simp only [h]
  rfl

theorem mask_flags (hv : IsFlags P k v) (j : Fin 16) : cmpi .sgt v (broadcast S16 0#32) (ln j) = 1#1 ↔ P (k + j) := by
  show IntOp.cmpi .sgt (v (ln j)) 0#32 = 1#1 ↔ _
  rw [sgt_zero, hv]
  split <;> simp [*]

theorem turned_of (hv : IsFlags P k v) {io : IVec S16 32} (hio : ∀ j : Fin 16, io (ln j) = BitVec.ofNat 32 (k + j)) :
    IsTurned P k (xori (select (cmpi .sgt v (broadcast S16 0#32)) io (broadcast S16 4294967295#32)) (broadcast S16 2147483648#32)) := by
  intro j
  have h := mask_flags hv j
  show (select _ _ _ (ln j)) ^^^ 2147483648#32 = _
  congr 1
  rw [select_ln]
  simp only [h, hio]
  rfl

/-! ## The indexed stores -/

/-- The entry `i` of a table of 64 words, as a number. -/
def entry (t : S64.Idx → BitVec 32) (i : ℕ) : ℕ := if h : i < 64 then (t (Shape.ofLane (d := ![64]) ⟨i, h⟩)).toNat else 0

/-- Some entry among the first `n` is `e`. -/
def Named (t : S64.Idx → BitVec 32) (n e : ℕ) : Prop := ∃ i < n, entry t i = e

instance (t : S64.Idx → BitVec 32) (n : ℕ) : DecidablePred (Named t n) := fun _ => by unfold Named; infer_instance

/-- A chunk of indices adds one per lane: the counts of the entries so far. -/
theorem counts_add {t : S64.Idx → BitVec 32} {hk : k + 16 ≤ 64} {A : S64.Idx → BitVec 32} {c : IVec S16 32} {F : FTy → Type} [FloatOps F]
    (hA : Counts (Named t k) k A) (hc : IsChunk k hk t c) {h : ∀ a x, ((![c] : Fin 1 → IVec S16 32) a x).toNat < S64.size a} :
    Counts (Named t (k + 16)) (k + 16)
      (storeIdx (F := F) (e := .i32) A ![c] (broadcast S16 1#32) (fun _ => 1#1) true h) := by
  unfold storeIdx
  refine foldl_finRange_inv (fun n g => Counts (Named t (k + n)) (k + n) g) _ _ (by simpa using hA) ?_
  intro j g hg e
  have hent : entry t (k + j) = (c (ln j)).toNat := by
    rw [hc j]; unfold entry; rw [dif_pos (by omega)]; try rfl
  have hnew : Named t (k + (j + 1)) (e 0).val ↔ Named t (k + j) (e 0).val ∨ (c (ln j)).toNat = (e 0).val := by
    constructor
    · rintro ⟨i, hi, he⟩
      rcases Nat.lt_or_ge i (k + j) with h' | h'
      · exact .inl ⟨i, h', he⟩
      · rw [show i = k + j by omega, hent] at he; exact .inr he
    · rintro (⟨i, hi, he⟩ | he)
      · exact ⟨i, by omega, he⟩
      · exact ⟨k + j, by omega, hent.trans he⟩
  rw [hnew]
  simp only [show ((1#1 : BitVec 1) = 1) = True from eq_true rfl, if_true]
  have hj := j.isLt
  have hidx : (∀ a, (e a).val = (idxAt (s := S64) ![c] h (Shape.ofLane j) a).val) ↔ (c (ln j)).toNat = (e 0).val := by
    constructor
    · intro h'; exact (h' 0).symm
    · intro h' a
      match a with
      | ⟨0, _⟩ => exact h'.symm
  split
  · rename_i hm
    have hm' := hidx.mp hm
    have he : idxAt (s := S64) ![c] h (Shape.ofLane j) = e := by
      funext a; exact Fin.ext (hm a).symm
    show (g (idxAt (s := S64) ![c] h (Shape.ofLane j)) + 1#32).toNat ≤ _ ∧ (0 < (g (idxAt (s := S64) ![c] h (Shape.ofLane j)) + 1#32).toNat ↔ _)
    rw [he]
    have h1 := (hg e).1
    rw [BitVec.toNat_add_of_lt (by simp; omega)]
    refine ⟨by simp; omega, ?_⟩
    simp [hm']
  · rename_i hm
    have hm' : ¬ (c (ln j)).toNat = (e 0).val := fun h' => hm (hidx.mpr h')
    refine ⟨by have := (hg e).1; omega, ?_⟩
    rw [(hg e).2]
    simp [hm']

open Classical in
/-- The number at which `P` holds with `i` such numbers in front of it. -/
def pick (P : ℕ → Prop) [DecidablePred P] (i : ℕ) : ℕ := if h : ∃ n, P n ∧ Nat.count P n = i then h.choose else 0

theorem pick_count {n : ℕ} (hn : P n) : pick P (Nat.count P n) = n := by
  have h : ∃ m, P m ∧ Nat.count P m = Nat.count P n := ⟨n, hn, rfl⟩
  unfold pick
  rw [dif_pos h]
  exact Nat.count_injective h.choose_spec.1 hn h.choose_spec.2

/-- The numbers at which `P` holds in order, then the last of them over and over. -/
def Listed (P : ℕ → Prop) [DecidablePred P] (n : ℕ) (w : BitVec 32) (D : S64.Idx → BitVec 32) : Prop :=
  ∀ i : S64.Idx, D i = if (i 0).val < Nat.count P n then BitVec.ofNat 32 (pick P (i 0).val) else w

theorem listed_store {hk : k + 16 ≤ 64} {w : BitVec 32} {D : S64.Idx → BitVec 32} {r io : IVec S16 32} {msk : IVec S16 1} {F : FTy → Type} [FloatOps F]
    (hD : Listed P k w D) (hr : ∀ j : Fin 16, r (ln j) = BitVec.ofNat 32 (Nat.count P (k + j)))
    (hio : ∀ j : Fin 16, io (ln j) = BitVec.ofNat 32 (k + j)) (hm : ∀ j : Fin 16, msk (ln j) = 1#1 ↔ P (k + j))
    {h : ∀ a x, ((![r] : Fin 1 → IVec S16 32) a x).toNat < S64.size a} :
    Listed P (k + 16) w (storeIdx (F := F) (e := .i32) D ![r] io msk false h) := by
  unfold storeIdx
  refine foldl_finRange_inv (fun n g => Listed P (k + n) w g) _ _ (by simpa using hD) ?_
  intro j g hg i
  have hj := j.isLt
  have hcl : Nat.count P (k + j) ≤ k + j := Nat.count_le _
  have hrn : (r (ln j)).toNat = Nat.count P (k + j) := by
    rw [hr, BitVec.toNat_ofNat, Nat.mod_eq_of_lt (by omega)]
  have hidx : (∀ a, (i a).val = (idxAt (s := S64) ![r] h (Shape.ofLane j) a).val) ↔ (i 0).val = Nat.count P (k + j) := by
    rw [← hrn]
    constructor
    · intro h'; exact h' 0
    · intro h' a
      match a with
      | ⟨0, _⟩ => exact h'
  rw [show k + (j.val + 1) = k + j + 1 from rfl, Nat.count_succ]
  by_cases hp : P (k + j)
  · have hmj : msk (Shape.ofLane j) = 1#1 := (hm j).mpr hp
    simp only [hmj, if_true, if_pos hp]
    simp only [show (1#1 : BitVec 1) = 1 from rfl, if_true, hidx, Bool.false_eq_true, if_false]
    by_cases hi : (i 0).val = Nat.count P (k + j)
    · rw [if_pos hi, if_pos (by omega), hi, pick_count hp]
      exact hio j
    · rw [if_neg hi, hg i]
      by_cases hlt : (i 0).val < Nat.count P (k + j)
      · rw [if_pos hlt, if_pos (by omega)]
      · rw [if_neg hlt, if_neg (by omega)]
  · have hmj : ¬ msk (Shape.ofLane j) = 1 := fun h' => hp ((hm j).mp h')
    simp only [if_neg hmj, if_neg hp, add_zero]
    exact hg i

end Cert.Proof.Moe

end
-- ==== Proof.ScTile.lean ====
/-
  The SparseCore call's task: one vector subcore's run of the compaction body, with the values it leaves.
-/
module

public import proofs.«01_k».proof.Proof.Compact
public import Idealize.ShloMosaic.Lib.WritesUnit

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

-- the memrefs the body table passes, as closed constants
local notation "tV" => (Memref.whole Cert.KernelIdeal.main_v2_scv : Memref Cert.KernelIdeal.sig Kind.scVector Space.hbm Cert.KernelIdeal.S64 EltTy.i32)
local notation "iV" => (Memref.whole Cert.KernelIdeal.main_v3_0_scv : Memref Cert.KernelIdeal.sig Kind.scVector Space.hbm Cert.KernelIdeal.S64 EltTy.i32)
local notation "nV" => (Memref.whole Cert.KernelIdeal.main_v3_1_scv : Memref Cert.KernelIdeal.sig Kind.scVector Space.hbm Cert.KernelIdeal.S16 EltTy.i32)
local notation "sT" => (Memref.whole Cert.KernelIdeal.cc1_scratch0 : Memref Cert.KernelIdeal.sig Kind.scVector Space.vmem Cert.KernelIdeal.S64 EltTy.i32)
local notation "sA" => (Memref.whole Cert.KernelIdeal.cc1_scratch1 : Memref Cert.KernelIdeal.sig Kind.scVector Space.vmem Cert.KernelIdeal.S64 EltTy.i32)
local notation "sR" => (Memref.whole Cert.KernelIdeal.cc1_scratch2 : Memref Cert.KernelIdeal.sig Kind.scVector Space.vmem Cert.KernelIdeal.S64 EltTy.i32)
local notation "sD" => (Memref.whole Cert.KernelIdeal.cc1_scratch3 : Memref Cert.KernelIdeal.sig Kind.scVector Space.vmem Cert.KernelIdeal.S64 EltTy.i32)
local notation "sN" => (Memref.whole Cert.KernelIdeal.cc1_scratch4 : Memref Cert.KernelIdeal.sig Kind.scVector Space.vmem Cert.KernelIdeal.S16 EltTy.i32)

variable (d : Dev nD) (L : grid1.Coords)

abbrev cV (L : grid1.Coords) : Fin τ.nSC := (L 0).castLE hcore1
abbrev jV (L : grid1.Coords) : Fin τ.nSub := (L 1).castLE hsub1
abbrev thr : Thread nD τ := V d (cV L) (jV L)

abbrev c0cell : GSem nD τ sig := (thr d L, .dma cc1_scoped0.sem)
abbrev c1cell : GSem nD τ sig := (thr d L, .dma cc1_scoped1.sem)
abbrev c2cell : GSem nD τ sig := (thr d L, .dma cc1_scoped2.sem)

theorem ownSems0_V :
    (ownSems0 (thr d L) : sProp 𝕄)
      = iprop(semVal (c0cell d L) 0 ∗ semVal (c1cell d L) 0 ∗ semVal (c2cell d L) 0
          ∗ bigSep ((((ownCells (thr d L)).erase (c0cell d L)).erase (c1cell d L)).erase (c2cell d L)) fun g => semVal g 0) := by
  unfold SparseCore.Cfg.ownSems0
  rw [SparseCore.bigSep_erase' ((mem_ownCells (g := c0cell d L)).mpr ⟨rfl, by
      show (SemLoc.dma cc1_scoped0.sem : SemLoc sig).isScoped .scVector = true; decide⟩),
    SparseCore.bigSep_erase' (Finset.mem_erase.mpr ⟨by simp [c0cell, c1cell]; decide, (mem_ownCells (g := c1cell d L)).mpr ⟨rfl, by
      show (SemLoc.dma cc1_scoped1.sem : SemLoc sig).isScoped .scVector = true; decide⟩⟩),
    SparseCore.bigSep_erase' (Finset.mem_erase.mpr ⟨by simp [c1cell, c2cell]; decide, Finset.mem_erase.mpr ⟨by simp [c0cell, c2cell]; decide,
      (mem_ownCells (g := c2cell d L)).mpr ⟨rfl, by show (SemLoc.dma cc1_scoped2.sem : SemLoc sig).isScoped .scVector = true; decide⟩⟩⟩)]

/-- The subcore's five scratches, each at some contents, and the rest of its buffers. -/
theorem ownBufs_V :
    (ownBufs (thr d L) : sProp 𝕄)
      = iprop((∃ f, (thr d L).loc cc1_scratch0 ↦{fullShare} f) ∗ (∃ f, (thr d L).loc cc1_scratch1 ↦{fullShare} f)
          ∗ (∃ f, (thr d L).loc cc1_scratch2 ↦{fullShare} f) ∗ (∃ f, (thr d L).loc cc1_scratch3 ↦{fullShare} f)
          ∗ (∃ f, (thr d L).loc cc1_scratch4 ↦{fullShare} f)
          ∗ bigSep ((((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3)).erase ((Proc.scVector (cV L) (jV L)).devRef cc1_scratch4))
              fun b => iprop(∃ f, ((d, b) : Loc nD τ sig) ↦{fullShare} f)) := by
  have ne {a b : Ref sig .scVector} (h : a ≠ b) : (Proc.scVector (cV L) (jV L)).devRef a ≠ (Proc.scVector (cV L) (jV L)).devRef b :=
    fun e => h (Proc.devRef_injective _ e)
  have own {b : Ref sig .scVector} (h : (Proc.devRef (Proc.scVector (cV L) (jV L)) b).owner = .proc (.scVector (cV L) (jV L))) :
      (Proc.scVector (cV L) (jV L)).devRef b ∈ ownRefs (τ := τ) (sig := sig) (.scVector (cV L) (jV L)) :=
    SparseCore.Cfg.mem_ownRefs_of_owner (p := Proc.scVector (cV L) (jV L)) h
  unfold SparseCore.Cfg.ownBufs
  refine (SparseCore.bigSep_erase' (own (b := cc1_scratch0) rfl)).trans ?_
  rw [SparseCore.bigSep_erase' (Finset.mem_erase.mpr ⟨ne (show (cc1_scratch1 : Ref sig .scVector) ≠ cc1_scratch0 by decide), own (b := cc1_scratch1) rfl⟩),
    SparseCore.bigSep_erase' (Finset.mem_erase.mpr ⟨ne (show (cc1_scratch2 : Ref sig .scVector) ≠ cc1_scratch1 by decide),
      Finset.mem_erase.mpr ⟨ne (show (cc1_scratch2 : Ref sig .scVector) ≠ cc1_scratch0 by decide), own (b := cc1_scratch2) rfl⟩⟩),
    SparseCore.bigSep_erase' (Finset.mem_erase.mpr ⟨ne (show (cc1_scratch3 : Ref sig .scVector) ≠ cc1_scratch2 by decide),
      Finset.mem_erase.mpr ⟨ne (show (cc1_scratch3 : Ref sig .scVector) ≠ cc1_scratch1 by decide),
      Finset.mem_erase.mpr ⟨ne (show (cc1_scratch3 : Ref sig .scVector) ≠ cc1_scratch0 by decide), own (b := cc1_scratch3) rfl⟩⟩⟩),
    SparseCore.bigSep_erase' (Finset.mem_erase.mpr ⟨ne (show (cc1_scratch4 : Ref sig .scVector) ≠ cc1_scratch3 by decide),
      Finset.mem_erase.mpr ⟨ne (show (cc1_scratch4 : Ref sig .scVector) ≠ cc1_scratch2 by decide),
      Finset.mem_erase.mpr ⟨ne (show (cc1_scratch4 : Ref sig .scVector) ≠ cc1_scratch1 by decide),
      Finset.mem_erase.mpr ⟨ne (show (cc1_scratch4 : Ref sig .scVector) ≠ cc1_scratch0 by decide), own (b := cc1_scratch4) rfl⟩⟩⟩⟩)]

theorem pts_t (f : Buf (Elt F) (tLoc d)) : ((tV).view.loc (thr d L) ↦{fullShare} f : sProp 𝕄) = tLoc d ↦{fullShare} f := rfl
theorem pts_i (f : Buf (Elt F) (iLoc d)) : ((iV).view.loc (thr d L) ↦{fullShare} f : sProp 𝕄) = iLoc d ↦{fullShare} f := rfl
theorem pts_n (f : Buf (Elt F) (nLoc d)) : ((nV).view.loc (thr d L) ↦{fullShare} f : sProp 𝕄) = nLoc d ↦{fullShare} f := rfl
theorem pts_sT (f : Buf (Elt F) ((thr d L).loc cc1_scratch0)) : ((sT).view.loc (thr d L) ↦{fullShare} f : sProp 𝕄) = (thr d L).loc cc1_scratch0 ↦{fullShare} f := rfl
theorem pts_sA (f : Buf (Elt F) ((thr d L).loc cc1_scratch1)) : ((sA).view.loc (thr d L) ↦{fullShare} f : sProp 𝕄) = (thr d L).loc cc1_scratch1 ↦{fullShare} f := rfl
theorem pts_sR (f : Buf (Elt F) ((thr d L).loc cc1_scratch2)) : ((sR).view.loc (thr d L) ↦{fullShare} f : sProp 𝕄) = (thr d L).loc cc1_scratch2 ↦{fullShare} f := rfl
theorem pts_sD (f : Buf (Elt F) ((thr d L).loc cc1_scratch3)) : ((sD).view.loc (thr d L) ↦{fullShare} f : sProp 𝕄) = (thr d L).loc cc1_scratch3 ↦{fullShare} f := rfl
theorem pts_sN (f : Buf (Elt F) ((thr d L).loc cc1_scratch4)) : ((sN).view.loc (thr d L) ↦{fullShare} f : sProp 𝕄) = (thr d L).loc cc1_scratch4 ↦{fullShare} f := rfl

/-- A buffer's contents under a name of their own, with what is known of them. -/
theorem named_pts (ℓ : Loc nD τ sig) (Q : Buf (Elt F) ℓ → Prop) {f : Buf (Elt F) ℓ} (h : Q f) :
    (ℓ ↦{fullShare} f : sProp 𝕄) ⊢ iprop(∃ g, ⌜Q g⌝ ∗ (ℓ ↦{fullShare} g)) := by
  iintro H
  iexists f
  isplitr
  · ipureintro; exact h
  · iexact H

/-- An indexed store into the count table of the tile: the buffer's contents become the stored ones. -/
theorem wp_storeIdx_sA {α : Type} {Q : α → sProp 𝕄} {idxs : Fin S64.rank → IVec S16 32} {v : Vec F S16 .i32}
    {mask : IVec S16 1} {add : Bool} {h : ∀ a x, (idxs a x).toNat < S64.size a} {hs : ((sA).access (.whole S64)).Stores Finset.univ}
    {k : PUnit → Prog (TpuEff nD τ sig (Elt F) Λ₀ (thr d L).2) α} {f : Buf (Elt F) ((sA).view.loc (thr d L))} :
    ((sA).view.loc (thr d L) ↦{fullShare} f : sProp 𝕄)
      ⊢ iprop((((sA).view.loc (thr d L) ↦{fullShare} storeIdx (F := F) (e := .i32) (s := S64) f idxs v mask add h)
          -∗ wp frame (wpE (defs₀ (F := F)) 𝒱₀ (thr d L) none) Set.univ (k ⟨⟩) Q)
        -∗ wp frame (wpE (defs₀ (F := F)) 𝒱₀ (thr d L) none) Set.univ (SparseCore.vectorStoreIdx sA idxs v mask add h hs >>= k) Q) := by
  have H := SparseCore.wp_vectorStoreIdx (defs := defs₀ (F := F)) 𝒱₀ (thr d L) none Set.univ (base := sA) (idxs := idxs) (v := v)
    (mask := mask) (add := add) (h := h) (hs := hs) (k := k) (f := f) (Q := Q)
  simp only [Memref.set_access_whole, Memref.read_access_whole, Memref.write_access_whole_univ] at H
  exact H

/-- An indexed store into the list of the tile: the buffer's contents become the stored ones. -/
theorem wp_storeIdx_sD {α : Type} {Q : α → sProp 𝕄} {idxs : Fin S64.rank → IVec S16 32} {v : Vec F S16 .i32}
    {mask : IVec S16 1} {add : Bool} {h : ∀ a x, (idxs a x).toNat < S64.size a} {hs : ((sD).access (.whole S64)).Stores Finset.univ}
    {k : PUnit → Prog (TpuEff nD τ sig (Elt F) Λ₀ (thr d L).2) α} {f : Buf (Elt F) ((sD).view.loc (thr d L))} :
    ((sD).view.loc (thr d L) ↦{fullShare} f : sProp 𝕄)
      ⊢ iprop((((sD).view.loc (thr d L) ↦{fullShare} storeIdx (F := F) (e := .i32) (s := S64) f idxs v mask add h)
          -∗ wp frame (wpE (defs₀ (F := F)) 𝒱₀ (thr d L) none) Set.univ (k ⟨⟩) Q)
        -∗ wp frame (wpE (defs₀ (F := F)) 𝒱₀ (thr d L) none) Set.univ (SparseCore.vectorStoreIdx sD idxs v mask add h hs >>= k) Q) := by
  have H := SparseCore.wp_vectorStoreIdx (defs := defs₀ (F := F)) 𝒱₀ (thr d L) none Set.univ (base := sD) (idxs := idxs) (v := v)
    (mask := mask) (add := add) (h := h) (hs := hs) (k := k) (f := f) (Q := Q)
  simp only [Memref.set_access_whole, Memref.read_access_whole, Memref.write_access_whole_univ] at H
  exact H

theorem write_sT (f : Buf (Elt F) ((sT).view.loc (thr d L))) (w : S64.Idx → BitVec 32) :
    View.write (Elt F) (sT).view f w Finset.univ = w := View.write_whole_univ _ _ _

theorem chunk_sT (k : ℕ) (hk : k + 16 ≤ 64) (inb : ∀ a, (![k] : Fin 1 → ℕ) a + S16.size a ≤ S64.size a) (f : Buf (Elt F) ((sT).view.loc (thr d L))) :
    IsChunk k hk f (View.readAt (Elt F) (sT).view (Rect.unit (s := S64) ![k] S16.size inb).toLoadRect f) := fun j => by
  show f _ = f _
  congr 1
  funext a
  match a with
  | ⟨0, _⟩ => exact Fin.ext (by show k + 1 * j.val = k + j.val; omega)

theorem chk_chunk (t : S64.Idx → BitVec 32) (hT : ∀ j, (t j).toNat < 64) (f : S16.Idx → S64.Idx) :
    k1_chk1 L (fun x => t (f x)) := fun _ a x => by
  match a with
  | ⟨0, _⟩ => exact hT _

/-- A table of 64 words stored as four chunks of sixteen. -/
theorem four_chunks (v : View sig .scVector .vmem S64 .i32) (f : v.ty.Contents (Elt F)) (G : ℕ → BitVec 32) {w0 w1 w2 w3 : S16.Idx → BitVec 32}
    (inb0 : ∀ a, (![0] : Fin 1 → ℕ) a + S16.size a ≤ S64.size a) (inb1 : ∀ a, (![16] : Fin 1 → ℕ) a + S16.size a ≤ S64.size a)
    (inb2 : ∀ a, (![32] : Fin 1 → ℕ) a + S16.size a ≤ S64.size a) (inb3 : ∀ a, (![48] : Fin 1 → ℕ) a + S16.size a ≤ S64.size a)
    (h0 : ∀ j : Fin 16, w0 (ln j) = G (0 + j)) (h1 : ∀ j : Fin 16, w1 (ln j) = G (16 + j)) (h2 : ∀ j : Fin 16, w2 (ln j) = G (32 + j))
    (h3 : ∀ j : Fin 16, w3 (ln j) = G (48 + j)) (y : S64.Idx) :
    v.read (Elt F) (v.writes (Elt F) f
      [⟨Rect.unit ![48] S16.size inb3, w3⟩, ⟨Rect.unit ![32] S16.size inb2, w2⟩, ⟨Rect.unit ![16] S16.size inb1, w1⟩,
        ⟨Rect.unit ![0] S16.size inb0, w0⟩]) y = G (y 0).val := by
  have hy : (y 0).val < 64 := (y 0).isLt
  have out (k : ℕ) (hk : (y 0).val < k ∨ k + 16 ≤ (y 0).val) : (y 0).val < (![k] : Fin 1 → ℕ) 0 ∨ (![k] : Fin 1 → ℕ) 0 + S16.size 0 ≤ (y 0).val := hk
  have inn (k : ℕ) (h : k ≤ (y 0).val ∧ (y 0).val < k + 16) (a : Fin S64.rank) :
      (y a).val = (![k] : Fin 1 → ℕ) a + ((ln ⟨(y 0).val - k, by omega⟩ : S16.Idx) a).val := by
    match a with
    | ⟨0, _⟩ => show (y 0).val = k + ((y 0).val - k); omega
  by_cases c3 : 48 ≤ (y 0).val
  · rw [View.read_writes_cons_unit_of_mem v f inb3 w3 _ y (ln ⟨(y 0).val - 48, by omega⟩) rfl (inn 48 (by omega)), h3]
    exact congrArg G (by show 48 + ((y 0).val - 48) = _; omega)
  rw [View.read_writes_cons_unit_of_not_mem v f inb3 w3 _ y rfl 0 (out 48 (by omega))]
  by_cases c2 : 32 ≤ (y 0).val
  · rw [View.read_writes_cons_unit_of_mem v f inb2 w2 _ y (ln ⟨(y 0).val - 32, by omega⟩) rfl (inn 32 (by omega)), h2]
    exact congrArg G (by show 32 + ((y 0).val - 32) = _; omega)
  rw [View.read_writes_cons_unit_of_not_mem v f inb2 w2 _ y rfl 0 (out 32 (by omega))]
  by_cases c1 : 16 ≤ (y 0).val
  · rw [View.read_writes_cons_unit_of_mem v f inb1 w1 _ y (ln ⟨(y 0).val - 16, by omega⟩) rfl (inn 16 (by omega)), h1]
    exact congrArg G (by show 16 + ((y 0).val - 16) = _; omega)
  rw [View.read_writes_cons_unit_of_not_mem v f inb1 w1 _ y rfl 0 (out 16 (by omega)),
    View.read_writes_cons_unit_of_mem v f inb0 w0 _ y (ln ⟨(y 0).val - 0, by omega⟩) rfl (inn 0 (by omega)), h0]
  exact congrArg G (by show 0 + ((y 0).val - 0) = _; omega)

theorem zeros_sA (t : S64.Idx → BitVec 32) (f : Buf (Elt F) ((sA).view.loc (thr d L))) :
    Counts (Named t 0) 0 ((sA).view.writes (Elt F) f
      [⟨Rect.unit ![48] S16.size inb_S64_S16_48, k1_pay8⟩, ⟨Rect.unit ![32] S16.size inb_S64_S16_32, k1_pay8⟩,
        ⟨Rect.unit ![16] S16.size inb_S64_S16_16, k1_pay8⟩, ⟨Rect.unit ![0] S16.size inb_S64_S16_0, k1_pay8⟩]) := fun e => by
  have h := four_chunks (F := F) (sA).view f (fun _ => 0#32) inb_S64_S16_0 inb_S64_S16_16 inb_S64_S16_32 inb_S64_S16_48
    (w0 := k1_pay8) (w1 := k1_pay8) (w2 := k1_pay8) (w3 := k1_pay8) (fun _ => rfl) (fun _ => rfl) (fun _ => rfl) (fun _ => rfl) e
  rw [show ((sA).view.writes (Elt F) f _ : S64.Idx → BitVec 32) e = 0#32 from h]
  refine ⟨le_rfl, ⟨fun h => absurd h (by decide), ?_⟩⟩
  rintro ⟨i, hi, _⟩
  omega

/-- The order the tile lists the experts in, a table of 64 words: those named in order, then the last of them. -/
def idsOf (t : S64.Idx → BitVec 32) : S64.Idx → BitVec 32 := fun i =>
  if (i 0).val < Nat.count (Named t 64) 64 then BitVec.ofNat 32 (pick (Named t 64) (i 0).val)
  else BitVec.ofNat 32 (lastUp (Named t 64) 64) - 1#32

/-- How many experts are named, in each of sixteen words. -/
def nactOf (t : S64.Idx → BitVec 32) : S16.Idx → BitVec 32 := fun _ => BitVec.ofNat 32 (Nat.count (Named t 64) 64)

theorem chunk_sA (k : ℕ) (hk : k + 16 ≤ 64) (inb : ∀ a, (![k] : Fin 1 → ℕ) a + S16.size a ≤ S64.size a) (f : Buf (Elt F) ((sA).view.loc (thr d L))) :
    IsChunk k hk f (View.readAt (Elt F) (sA).view (Rect.unit (s := S64) ![k] S16.size inb).toLoadRect f) := fun j => by
  show f _ = f _
  congr 1
  funext a
  match a with
  | ⟨0, _⟩ => exact Fin.ext (by show k + 1 * j.val = k + j.val; omega)

theorem chunk_sR (k : ℕ) (hk : k + 16 ≤ 64) (inb : ∀ a, (![k] : Fin 1 → ℕ) a + S16.size a ≤ S64.size a) (f : Buf (Elt F) ((sR).view.loc (thr d L))) :
    IsChunk k hk f (View.readAt (Elt F) (sR).view (Rect.unit (s := S64) ![k] S16.size inb).toLoadRect f) := fun j => by
  show f _ = f _
  congr 1
  funext a
  match a with
  | ⟨0, _⟩ => exact Fin.ext (by show k + 1 * j.val = k + j.val; omega)

theorem numbers (k : ℕ) (j : Fin 16) :
    addi (iota .scVector S16 32 [0] iota_S16_d0_w32_scVector) (broadcast S16 (BitVec.ofNat 32 k)) (ln j) = BitVec.ofNat 32 (k + j) := by
  show iota .scVector S16 32 [0] iota_S16_d0_w32_scVector (ln j) + BitVec.ofNat 32 k = _
  rw [Nat.add_comm, BitVec.ofNat_add]
  congr 1
  fin_cases j <;> rfl

theorem chk_ranks {P : ℕ → Prop} [DecidablePred P] (k : ℕ) (hk : k + 16 ≤ 64) {r : S16.Idx → BitVec 32}
    (hr : ∀ j : Fin 16, r (ln j) = BitVec.ofNat 32 (Nat.count P (k + j))) : k1_chk1 L r := fun _ a x => by
  match a with
  | ⟨0, _⟩ =>
    show (r x).toNat < 64
    rw [eq_ln x, show r (ln (x 0)) = _ from hr (x 0)]
    have h1 : Nat.count P (k + (x 0).val) ≤ k + (x 0).val := Nat.count_le P
    have h2 : (x 0).val < 16 := (x 0).isLt
    rw [BitVec.toNat_ofNat, Nat.mod_eq_of_lt (by omega)]
    omega

set_option maxHeartbeats 2000000 in
theorem tile_work (hC : k1_cond1 L = 1#1) (tt : Buf (Elt F) (tLoc d)) (hT : ∀ j, (tt j).toNat < 64)
    (fi : Buf (Elt F) (iLoc d)) (fn : Buf (Elt F) (nLoc d))
    (hF : (K (F := F)).Facts) (O : CellTallies nD τ sig (HIx 1)) (W : Waits sig (HIx 1)) (hO : ∀ g, O g none = 0) :
    iprop(levAts (K (F := F)).L (K (F := F)).lev ∗ (tPts d tt ∗ iPts d fi ∗ nPts d fn)
        ∗ scopedBufs (thr d L) ∗ scopedSems0 (thr d L) ∗ owes (thr d L) O W)
      ⊢ wp frame (wpE (defs₀ (F := F)) 𝒱₀ (thr d L) none) Set.univ
          (cc1__sc_compact_body L tV (Memref.isWhole_whole _) iV (Memref.isWhole_whole _) nV (Memref.isWhole_whole _)
            sT (Memref.isWhole_whole _) sA (Memref.isWhole_whole _) sR (Memref.isWhole_whole _) sD (Memref.isWhole_whole _) sN (Memref.isWhole_whole _)
            cc1_scoped0 cc1_scoped1 cc1_scoped2)
          fun _ => iprop((tPts d tt ∗ iPts d (idsOf tt) ∗ nPts d (nactOf tt))
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  iintro ⟨#Hlv, ⟨Ht, Hi, Hn⟩, ⟨⟨%fT, HT⟩, ⟨%fA, HA⟩, ⟨%fR, HR⟩, ⟨%fD, HD⟩, ⟨%fN, HN⟩, Hbufs⟩, ⟨Hsem0, Hsem1, Hsem2, Hsems⟩, HO⟩
  ihave Hmw := (show levAts (K (F := F)).L (K (F := F)).lev ⊢ Transfers.MayWaits (thr d L) (default : HIx 1) O from
    (K (F := F)).mayWaits_none (thr := thr d L) hO) $$ Hlv
  ihave Ht := (Entails.of_eq (pts_t (F := F) d L _).symm) $$ Ht
  ihave Hi := (Entails.of_eq (pts_i (F := F) d L _).symm) $$ Hi
  ihave Hn := (Entails.of_eq (pts_n (F := F) d L _).symm) $$ Hn
  ihave HT := (Entails.of_eq (pts_sT (F := F) d L _).symm) $$ HT
  ihave HA := (Entails.of_eq (pts_sA (F := F) d L _).symm) $$ HA
  ihave HR := (Entails.of_eq (pts_sR (F := F) d L _).symm) $$ HR
  ihave HD := (Entails.of_eq (pts_sD (F := F) d L _).symm) $$ HD
  ihave HN := (Entails.of_eq (pts_sN (F := F) d L _).symm) $$ HN
  sl_unfold [cc1__sc_compact_body, k1_part1]
  sl_exec
  rw [write_sT, show tile_work.sl.dma0 (F := F) d tt = tt from rfl]
  ihave HA := (named_pts (F := F) ((sA).view.loc (thr d L)) (fun g => Counts (Named tt 0) 0 g) ?hA) $$ HA
  case hA => exact zeros_sA d L tt fA
  icases HA with ⟨%A0, %hA0, HA⟩
  rw [wp_assume_of _ _ _ _ ?h0]
  case h0 => exact chk_chunk L tt hT _
  iapply (wp_storeIdx_sA (F := F) d L) $$ HA; iintro HA
  ihave HA := (named_pts (F := F) ((sA).view.loc (thr d L)) (fun g => Counts (Named tt 16) 16 g) ?hA0) $$ HA
  case hA0 => exact counts_add hA0 (chunk_sT d L 0 (by omega) _ _)
  icases HA with ⟨%A1, %hA1, HA⟩
  sl_exec
  rw [wp_assume_of _ _ _ _ ?h1]
  case h1 => exact chk_chunk L tt hT _
  iapply (wp_storeIdx_sA (F := F) d L) $$ HA; iintro HA
  ihave HA := (named_pts (F := F) ((sA).view.loc (thr d L)) (fun g => Counts (Named tt 32) 32 g) ?hA1) $$ HA
  case hA1 => exact counts_add hA1 (chunk_sT d L 16 (by omega) _ _)
  icases HA with ⟨%A2, %hA2, HA⟩
  sl_exec
  rw [wp_assume_of _ _ _ _ ?h2]
  case h2 => exact chk_chunk L tt hT _
  iapply (wp_storeIdx_sA (F := F) d L) $$ HA; iintro HA
  ihave HA := (named_pts (F := F) ((sA).view.loc (thr d L)) (fun g => Counts (Named tt 48) 48 g) ?hA2) $$ HA
  case hA2 => exact counts_add hA2 (chunk_sT d L 32 (by omega) _ _)
  icases HA with ⟨%A3, %hA3, HA⟩
  sl_exec
  rw [wp_assume_of _ _ _ _ ?h3]
  case h3 => exact chk_chunk L tt hT _
  iapply (wp_storeIdx_sA (F := F) d L) $$ HA; iintro HA
  ihave HA := (named_pts (F := F) ((sA).view.loc (thr d L)) (fun g => Counts (Named tt 64) 64 g) ?hA3) $$ HA
  case hA3 => exact counts_add hA3 (chunk_sT d L 48 (by omega) _ _)
  icases HA with ⟨%A4, %hA4, HA⟩
  sl_exec
  have c0 := chunk_sA (F := F) d L 0 (by omega) inb_S64_S16_0 A4
  have c1 := chunk_sA (F := F) d L 16 (by omega) inb_S64_S16_16 A4
  have c2 := chunk_sA (F := F) d L 32 (by omega) inb_S64_S16_32 A4
  have c3 := chunk_sA (F := F) d L 48 (by omega) inb_S64_S16_48 A4
  have f0 := flags_of hA4 c0
  have f1 := flags_of hA4 c1
  have f2 := flags_of hA4 c2
  have f3 := flags_of hA4 c3
  have t1 : tile_work.sl.v44 d L A4 = BitVec.ofNat 32 (Nat.count (Named tt 64) 16) := total_flags f0 0#32 rfl
  have t2 : tile_work.sl.v73 d L A4 = BitVec.ofNat 32 (Nat.count (Named tt 64) 32) := total_flags f1 _ t1
  have t3 : tile_work.sl.v102 d L A4 = BitVec.ofNat 32 (Nat.count (Named tt 64) 48) := total_flags f2 _ t2
  have t4 : tile_work.sl.v131 d L A4 = BitVec.ofNat 32 (Nat.count (Named tt 64) 64) := total_flags f3 _ t3
  have l1 : tile_work.sl.v40 d L A4 = BitVec.ofNat 32 (lastUp (Named tt 64) 16) - 1#32 := last_turned (by omega) (turned_of f0 (numbers 0)) _ rfl
  have l2 : tile_work.sl.v69 d L A4 = BitVec.ofNat 32 (lastUp (Named tt 64) 32) - 1#32 := last_turned (by omega) (turned_of f1 (numbers 16)) _ l1
  have l3 : tile_work.sl.v98 d L A4 = BitVec.ofNat 32 (lastUp (Named tt 64) 48) - 1#32 := last_turned (by omega) (turned_of f2 (numbers 32)) _ l2
  have l4 := last_turned (by omega) (turned_of f3 (numbers 48)) _ l3
  have hR (g) (y : S64.Idx) : (sR).view.read (Elt F) ((sR).view.writes (Elt F) g (tile_work.sl.HR_4 d L A4)) y
      = BitVec.ofNat 32 (Nat.count (Named tt 64) (y 0).val) :=
    four_chunks (sR).view g (fun e => BitVec.ofNat 32 (Nat.count (Named tt 64) e)) _ _ _ _
      (fun j => rank_flags f0 j 0#32 rfl) (fun j => rank_flags f1 j _ t1) (fun j => rank_flags f2 j _ t2) (fun j => rank_flags f3 j _ t3) y
  ihave HR := (named_pts (F := F) ((sR).view.loc (thr d L)) (fun R => ∀ y : S64.Idx, R y = BitVec.ofNat 32 (Nat.count (Named tt 64) (y 0).val)) ?hR') $$ HR
  case hR' => exact hR fR
  icases HR with ⟨%R, %hR', HR⟩
  have r0 (j : Fin 16) : tile_work.sl.v147 d L A4 (ln j) = BitVec.ofNat 32 (Nat.count (Named tt 64) (0 + j)) := by
    refine (chunk_sR (F := F) d L 0 (by omega) inb_S64_S16_0 _ j).trans (hR _ _)
  have rk (k : ℕ) (hk : k + 16 ≤ 64) (inb : ∀ a, (![k] : Fin 1 → ℕ) a + S16.size a ≤ S64.size a) (j : Fin 16) :
      View.readAt (Elt F) (sR).view (Rect.unit (s := S64) ![k] S16.size inb).toLoadRect R (ln j) = BitVec.ofNat 32 (Nat.count (Named tt 64) (k + j)) :=
    (chunk_sR (F := F) d L k hk inb R j).trans (hR' _)
  ihave HD := (named_pts (F := F) ((sD).view.loc (thr d L)) (fun D => Listed (Named tt 64) 0 (BitVec.ofNat 32 (lastUp (Named tt 64) 64) - 1#32) D) ?hD) $$ HD
  case hD =>
    intro y
    rw [if_neg (by simp)]
    exact four_chunks (F := F) (sD).view fD (fun _ => BitVec.ofNat 32 (lastUp (Named tt 64) 64) - 1#32) _ _ _ _
      (fun j => (BitVec.zero_add _).trans l4) (fun j => (BitVec.zero_add _).trans l4) (fun j => (BitVec.zero_add _).trans l4) (fun j => (BitVec.zero_add _).trans l4) y
  icases HD with ⟨%D0, %hD0, HD⟩
  rw [wp_assume_of _ _ _ _ ?g0]
  case g0 => exact chk_ranks L 0 (by omega) r0
  iapply (wp_storeIdx_sD (F := F) d L) $$ HD; iintro HD
  ihave HD := (named_pts (F := F) ((sD).view.loc (thr d L)) (fun D => Listed (Named tt 64) 16 (BitVec.ofNat 32 (lastUp (Named tt 64) 64) - 1#32) D) ?hD1) $$ HD
  case hD1 => exact listed_store (hk := (by omega : 0 + 16 ≤ 64)) hD0 r0 (numbers 0) (mask_iff hA4 c0)
  icases HD with ⟨%D1, %hD1, HD⟩
  sl_exec
  rw [wp_assume_of _ _ _ _ ?g1]
  case g1 => exact chk_ranks L 16 (by omega) (rk 16 (by omega) _)
  iapply (wp_storeIdx_sD (F := F) d L) $$ HD; iintro HD
  ihave HD := (named_pts (F := F) ((sD).view.loc (thr d L)) (fun D => Listed (Named tt 64) 32 (BitVec.ofNat 32 (lastUp (Named tt 64) 64) - 1#32) D) ?hD2) $$ HD
  case hD2 => exact listed_store (hk := (by omega : 16 + 16 ≤ 64)) hD1 (rk 16 (by omega) _) (numbers 16) (mask_iff hA4 c1)
  icases HD with ⟨%D2, %hD2, HD⟩
  sl_exec
  rw [wp_assume_of _ _ _ _ ?g2]
  case g2 => exact chk_ranks L 32 (by omega) (rk 32 (by omega) _)
  iapply (wp_storeIdx_sD (F := F) d L) $$ HD; iintro HD
  ihave HD := (named_pts (F := F) ((sD).view.loc (thr d L)) (fun D => Listed (Named tt 64) 48 (BitVec.ofNat 32 (lastUp (Named tt 64) 64) - 1#32) D) ?hD3) $$ HD
  case hD3 => exact listed_store (hk := (by omega : 32 + 16 ≤ 64)) hD2 (rk 32 (by omega) _) (numbers 32) (mask_iff hA4 c2)
  icases HD with ⟨%D3, %hD3, HD⟩
  sl_exec
  rw [wp_assume_of _ _ _ _ ?g3]
  case g3 => exact chk_ranks L 48 (by omega) (rk 48 (by omega) _)
  iapply (wp_storeIdx_sD (F := F) d L) $$ HD; iintro HD
  ihave HD := (named_pts (F := F) ((sD).view.loc (thr d L)) (fun D => Listed (Named tt 64) 64 (BitVec.ofNat 32 (lastUp (Named tt 64) 64) - 1#32) D) ?hD4) $$ HD
  case hD4 => exact listed_store (hk := (by omega : 48 + 16 ≤ 64)) hD3 (rk 48 (by omega) _) (numbers 48) (mask_iff hA4 c3)
  icases HD with ⟨%D4, %hD4, HD⟩
  sl_exec
  have hi : View.write (Elt F) (iV).view fi (tile_work.sl.dma2 d L D4) Finset.univ = idsOf tt :=
    (View.write_whole_univ _ _ _).trans (funext hD4)
  have hn : View.write (Elt F) (nV).view fn (tile_work.sl.dma2_1 d L fN A4) Finset.univ = nactOf tt := by
    refine (View.write_whole_univ _ _ _).trans (funext fun y : S16.Idx => ?_)
    refine (View.read_writes_cons_unit_of_mem (sN).view fN inb_S16_S16_0 _ [] y y rfl (fun a => ?_)).trans ((BitVec.zero_add _).trans t4)
    match a with
    | ⟨0, _⟩ => exact (Nat.zero_add _).symm
  rw [hi, hn]
  ihave Ht := (Entails.of_eq (pts_t (F := F) d L _)) $$ Ht
  ihave Hi := (Entails.of_eq (pts_i (F := F) d L _)) $$ Hi
  ihave Hn := (Entails.of_eq (pts_n (F := F) d L _)) $$ Hn
  ihave HT := (Entails.of_eq (pts_sT (F := F) d L _)) $$ HT
  ihave HA := (Entails.of_eq (pts_sA (F := F) d L _)) $$ HA
  ihave HR := (Entails.of_eq (pts_sR (F := F) d L _)) $$ HR
  ihave HD := (Entails.of_eq (pts_sD (F := F) d L _)) $$ HD
  ihave HN := (Entails.of_eq (pts_sN (F := F) d L _)) $$ HN
  rw [wp_ret]
  imodintro
  isplitl [Ht Hi Hn]
  · iframe
  isplitl [HT HA HR HD HN Hbufs]
  · isplitl [HT]; · iexists _; iexact HT
    isplitl [HA]; · iexists _; iexact HA
    isplitl [HR]; · iexists _; iexact HR
    isplitl [HD]; · iexists _; iexact HD
    isplitl [HN]; · iexists _; iexact HN
    iexact Hbufs
  isplitl [Hsem0 Hsem1 Hsem2 Hsems]
  · isplitl [Hsem0]; · iexact Hsem0
    isplitl [Hsem1]; · iexact Hsem1
    isplitl [Hsem2]; · iexact Hsem2
    iexact Hsems
  iexists _
  isplitr
  rotate_left
  · iexact HO
  · ipureintro
    intro p hp
    rcases Finset.mem_insert.mp hp with rfl | hp
    · exact Or.inr (Or.inl rfl)
    rcases Finset.mem_insert.mp hp with rfl | hp
    · exact Or.inr (Or.inl rfl)
    rcases Finset.mem_insert.mp hp with rfl | hp
    · exact Or.inr (Or.inl rfl)
    exact .inl hp

end Cert.Proof.Moe

end
-- ==== Proof.Chain.lean ====
/-
  What @main's buffers hold line by line: each host line's result, what each kernel region leaves, and the SparseCore call's
  two results.
-/
module

public import proofs.«01_k».proof.Proof.Segment
public import proofs.«01_k».proof.Proof.ScTile
public import Idealize.ShloMosaic.Lib.Pipeline.ValueKit

@[expose] public section

noncomputable section

namespace Cert.Proof.Moe

open Cert.KernelIdeal Cert.KernelIdeal.Gen

open Idealize.ShloMosaic
open Idealize.ShloMosaic.Pipeline (Dat afterRegion arrRef)
open Idealize.ShloMosaic.SparseCore (S V T)
open Idealize.ShloMosaic.SparseCore.Cfg (HIx)
open Idealize.SL Idealize.SL.RA Idealize.SL.BI Idealize.SL.Sem
open TcCoe

variable {F : FTy → Type} [FloatOps F]

/-! ## What the regions leave -/

section Regions

variable (W : Valuation τ sig (Elt F)) (O : CellTallies nD τ sig (HIx 1)) (B : Set (SemLoc sig × HIx 1)) (c : Dev nD)

theorem after0_2 : at' (afterRegion (dat0 W O B c) W) main_v1_0 = routeIx (at' W main_v0) (at' W main_arg1) := by
  refine (Pipeline.afterRegion_arr (dat0 W O B c) W (launch0 (F := F)).win.arr_inj 2).trans ?_
  exact (dat0 W O B c).arrAt_eq_of_after_last 2 t0_0 (by decide +kernel) _ fun j => rfl

theorem after0_3 : at' (afterRegion (dat0 W O B c) W) main_v1_1 = routeW (at' W main_v0) (at' W main_arg1) := by
  refine (Pipeline.afterRegion_arr (dat0 W O B c) W (launch0 (F := F)).win.arr_inj 3).trans ?_
  exact (dat0 W O B c).arrAt_eq_of_after_last 3 t0_0 (by decide +kernel) _ fun j => rfl

theorem after2_4 : at' (afterRegion (dat2 W O B c) W) main_v5 = k2_pay1 (at' W main_v0) (at' W main_arg6) (at' W main_arg7) (at' W main_arg8) := by
  refine (Pipeline.afterRegion_arr (dat2 W O B c) W (launch2 (F := F)).win.arr_inj 4).trans ?_
  exact (dat2 W O B c).arrAt_eq_of_after_last 4 t2_0 (by decide +kernel) _ fun j => rfl

theorem keep0 (r : Ref sig .tc) (h : r ≠ main_v1_0) (h' : r ≠ main_v1_1) : at' (afterRegion (dat0 W O B c) W) r = at' W r :=
  Pipeline.afterRegion_keeps (dat0 W O B c) W (launch0 (F := F)).win.arr_inj (fun _ => rfl) r fun
    | 0, _ => rfl | 1, _ => rfl | 2, e => absurd e.symm h | 3, e => absurd e.symm h' | ⟨_ + 4, h⟩, _ => absurd h (Nat.not_lt.2 (Nat.le_add_left _ _))

theorem keep2 (r : Ref sig .tc) (h : r ≠ main_v5) : at' (afterRegion (dat2 W O B c) W) r = at' W r :=
  Pipeline.afterRegion_keeps (dat2 W O B c) W (launch2 (F := F)).win.arr_inj (fun _ => rfl) r fun
    | 0, _ => rfl | 1, _ => rfl | 2, _ => rfl | 3, _ => rfl | 4, e => absurd e.symm h | ⟨_ + 5, h⟩, _ => absurd h (Nat.not_lt.2 (Nat.le_add_left _ _))

variable (a : (pcfg3 (F := F)).Adm)

theorem keep3 (r : Ref sig .tc) (h : r ≠ main_v8) : at' (afterRegion (dat3 a W O B c) W) r = at' W r :=
  Pipeline.afterRegion_keeps (dat3 a W O B c) W winFacts3.arr_inj (fun _ => rfl) r fun
    | 0, _ => rfl | 1, _ => rfl | 2, _ => rfl | 3, _ => rfl | 4, _ => rfl | 5, _ => rfl | 6, _ => rfl | 7, e => absurd e.symm h
    | ⟨_ + 8, h⟩, _ => absurd h (Nat.not_lt.2 (Nat.le_add_left _ _))

/-- The last grid point. -/
def tEnd : Fin (cfg3 a).N := ⟨63, by rw [show (cfg3 a).N = 64 from N_3]; decide⟩

theorem whole7 : ((cfg3 a).win 7).WholeAt (tEnd a) := by
  have hN : (cfg3 a).N = 64 := N_3
  refine ⟨?_, fun t ht => ?_, fun x => ⟨?_, ?_⟩⟩
  · unfold Pipeline.Window.flush
    rw [Bool.and_eq_true]
    refine ⟨rfl, ?_⟩
    rw [Bool.or_eq_true]
    left
    exact decide_eq_true (show 63 + 1 = (cfg3 a).grid.N from hN.symm)
  · by_contra hne
    have hlt : t.val < 64 := lt_of_lt_of_eq t.isLt hN
    have : t.val ≠ 63 := fun e => hne (Fin.ext e)
    rw [flush7 a t (by omega)] at ht
    exact absurd ht (by decide)
  · match x with
    | ⟨0, _⟩ => rfl
    | ⟨1, _⟩ => rfl
  · match x with
    | ⟨0, _⟩ => rfl
    | ⟨1, _⟩ => rfl

theorem after3_7 : at' (afterRegion (dat3 a W O B c) W) main_v8 = accOf a W 63 := by
  refine (Pipeline.afterRegion_arr (dat3 a W O B c) W winFacts3.arr_inj 7).trans ?_
  exact (dat3 a W O B c).arrAt_eq_of_after_last 7 (tEnd a) (whole7 a) _ fun j => rfl

end Regions

/-! ## Line by line -/

section Lines

variable (m : (ℓ : Loc nD τ sig) → Buf (Elt F) ℓ) (d : Dev nD)

abbrev opA : HloOp τ sig (Elt F) := StableHlo.reshape main_arg0 main_v0 (rfl : (.f32 : EltTy) = .f32) shapeCasts_S32x1x1024_S32x1024
abbrev opB : HloOp τ sig (Elt F) := StableHlo.reshape main_v1_0 main_v2 (rfl : (.i32 : EltTy) = .i32) shapeCasts_S32x2_S64
abbrev opC : HloOp τ sig (Elt F) := StableHlo.unary main_v3_1 main_v4
  ((extractStridedSlice S1 ![0] · slices_S16_S1_0) : (⟨S16, .i32⟩ : BufTy).Contents (Elt F) → (⟨S1, .i32⟩ : BufTy).Contents (Elt F))
abbrev opD : HloOp τ sig (Elt F) := StableHlo.reshape main_v3_0 main_v6 (rfl : (.i32 : EltTy) = .i32) shapeCasts_S64_S64x1
abbrev opE : HloOp τ sig (Elt F) := StableHlo.reshape main_v6 main_v7 (rfl : (.i32 : EltTy) = .i32) shapeCasts_S64x1_S64
abbrev opG : HloOp τ sig (Elt F) := StableHlo.reshape main_v8 main_v9 (rfl : (.f32 : EltTy) = .f32) shapeCasts_S32x1024_S32x1x1024

/-- The pairs a TensorCore may have recorded before SparseCore call `n`. -/
def low (n : ℕ) (d : Dev nD) : Set (SemLoc sig × HIx 1) := {p | (K (F := F)).lev (T d, p.1) p.2 ≤ 8 * n}

def V0 : Valuation τ sig (Elt F) := fun b => m (d, b)
def V1 : Valuation τ sig (Elt F) := opA.result (V0 m d)
def V2 : Valuation τ sig (Elt F) := afterRegion (dat0 (V1 m d) ((K (F := F)).Otc d 0) (low (F := F) 0 d) d) (V1 m d)
def V3 : Valuation τ sig (Elt F) := opB.result (V2 m d)
/-- The routing call's indices, flat. -/
def tk : S64.Idx → BitVec 32 := at' (V3 m d) main_v2
def V4 : Valuation τ sig (Elt F) :=
  Function.update (Function.update (V3 m d) (Proc.devRef .tc main_v3_0) (idsOf (tk m d))) (Proc.devRef .tc main_v3_1) (nactOf (tk m d))
def V5 : Valuation τ sig (Elt F) := opC.result (V4 m d)
def V6 : Valuation τ sig (Elt F) := afterRegion (dat2 (V5 m d) ((K (F := F)).Otc d 1) (low (F := F) 1 d) d) (V5 m d)
def V7 : Valuation τ sig (Elt F) := opD.result (V6 m d)
def V8 : Valuation τ sig (Elt F) := opE.result (V7 m d)

/-- The routing call names experts there are. -/
def Routed : Prop := ∀ d j, (tk m d j).toNat < 64

theorem V4_off (r : Ref sig .tc) (h : r ≠ main_v3_0) (h' : r ≠ main_v3_1) : at' (V4 m d) r = at' (V3 m d) r :=
  (Function.update_of_ne (StableHlo.devRef_ne_of_ne h') _ _).trans (Function.update_of_ne (StableHlo.devRef_ne_of_ne h) _ _)
theorem V4_ids : at' (V4 m d) main_v3_0 = idsOf (tk m d) :=
  (Function.update_of_ne (StableHlo.devRef_ne_of_ne (by decide)) _ _).trans (Function.update_self _ _ _)
theorem V4_cnt : at' (V4 m d) main_v3_1 = nactOf (tk m d) := Function.update_self _ _ _

theorem V1_off (r : Ref sig .tc) (h : r ≠ main_v0) : at' (V1 m d) r = at' (V0 m d) r := StableHlo.reshape_result_ne _ _ _ _ _ _ _ h
theorem V3_off (r : Ref sig .tc) (h : r ≠ main_v2) : at' (V3 m d) r = at' (V2 m d) r := StableHlo.reshape_result_ne _ _ _ _ _ _ _ h
theorem V5_off (r : Ref sig .tc) (h : r ≠ main_v4) : at' (V5 m d) r = at' (V4 m d) r := StableHlo.unary_result_ne _ _ _ _ _ _ h
theorem V7_off (r : Ref sig .tc) (h : r ≠ main_v6) : at' (V7 m d) r = at' (V6 m d) r := StableHlo.reshape_result_ne _ _ _ _ _ _ _ h
theorem V8_off (r : Ref sig .tc) (h : r ≠ main_v7) : at' (V8 m d) r = at' (V7 m d) r := StableHlo.reshape_result_ne _ _ _ _ _ _ _ h

/-- The host lines' results. -/
theorem V1_v0 : at' (V1 m d) main_v0 = shapeCast S32x1024 (at' (V0 m d) main_arg0) shapeCasts_S32x1x1024_S32x1024 := StableHlo.reshape_result _ _ _ _ _ _ _
theorem V3_v2 : tk m d = shapeCast S64 (at' (V2 m d) main_v1_0) shapeCasts_S32x2_S64 := by
  unfold tk V3
  exact StableHlo.reshape_result _ _ _ _ _ _ _
theorem V5_v4 : at' (V5 m d) main_v4 = extractStridedSlice S1 ![0] (at' (V4 m d) main_v3_1) slices_S16_S1_0 := StableHlo.unary_result _ _ _ _ _ _
theorem V7_v6 : at' (V7 m d) main_v6 = shapeCast S64x1 (at' (V6 m d) main_v3_0) shapeCasts_S64_S64x1 := StableHlo.reshape_result _ _ _ _ _ _ _
theorem V8_v7 : at' (V8 m d) main_v7 = shapeCast S64 (at' (V7 m d) main_v6) shapeCasts_S64x1_S64 := StableHlo.reshape_result _ _ _ _ _ _ _

theorem V2_v1_0 : at' (V2 m d) main_v1_0 = routeIx (at' (V1 m d) main_v0) (at' (V1 m d) main_arg1) := after0_2 _ _ _ _
theorem V2_v1_1 : at' (V2 m d) main_v1_1 = routeW (at' (V1 m d) main_v0) (at' (V1 m d) main_arg1) := after0_3 _ _ _ _
theorem V2_off (r : Ref sig .tc) (h : r ≠ main_v1_0) (h' : r ≠ main_v1_1) : at' (V2 m d) r = at' (V1 m d) r := keep0 _ _ _ _ r h h'
theorem V6_v5 : at' (V6 m d) main_v5 = k2_pay1 (at' (V5 m d) main_v0) (at' (V5 m d) main_arg6) (at' (V5 m d) main_arg7) (at' (V5 m d) main_arg8) := after2_4 _ _ _ _
theorem V6_off (r : Ref sig .tc) (h : r ≠ main_v5) : at' (V6 m d) r = at' (V5 m d) r := keep2 _ _ _ _ r h

/-- The tables the expert call prefetches. -/
theorem flat_again (f : S64.Idx → Elt F .i32) : shapeCast S64 (shapeCast S64x1 f shapeCasts_S64_S64x1) shapeCasts_S64x1_S64 = f := by
  rw [shapeCast_comp, shapeCast_self]

theorem V8_ids : at' (V8 m d) main_v7 = idsOf (tk m d) := by
  refine (V8_v7 m d).trans ?_
  rw [V7_v6]
  refine (flat_again _).trans ?_
  rw [V6_off m d _ (by decide), V5_off m d _ (by decide), V4_ids]

theorem V8_cnt : cnt (F := F) (at' (V8 m d) main_v4) = BitVec.ofNat 32 (Nat.count (Named (tk m d) 64) 64) := by
  rw [V8_off m d _ (by decide), V7_off m d _ (by decide), V6_off m d _ (by decide), V5_v4, V4_cnt]
  rfl

/-- A buffer no line writes holds what it held at launch. -/
theorem V8_arg (r : Ref sig .tc) (h : r ∉ [main_v0, main_v1_0, main_v1_1, main_v2, main_v3_0, main_v3_1, main_v4, main_v5, main_v6, main_v7]) :
    at' (V8 m d) r = at' (V0 m d) r := by
  simp only [List.mem_cons, List.not_mem_nil, not_or] at h
  obtain ⟨h0, h1, h2, h3, h4, h5, h6, h7, h8, h9, -⟩ := h
  rw [V8_off m d r h9, V7_off m d r h8, V6_off m d r h7, V5_off m d r h6, V4_off m d r h4 h5, V3_off m d r h3, V2_off m d r h1 h2, V1_off m d r h0]

end Lines

end Cert.Proof.Moe

end
-- ==== Proof.Stages.lean ====
/-
  The three kernel regions of @main as they stand in the program: each one's account of itself at the contents @main has reached,
  and the tables the expert call prefetches.
-/
module

public import proofs.«01_k».proof.Proof.Chain

@[expose] public section

noncomputable section

namespace Cert.Proof.Moe

open Cert.KernelIdeal Cert.KernelIdeal.Gen

open Idealize.ShloMosaic
open Idealize.ShloMosaic.Pipeline (Dat BodyObligation PLaunchFacts pin ucRefs afterRegion arrRef scopedRest)
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

/-! ## Every id names an expert -/

theorem pick_lt (P : ℕ → Prop) [DecidablePred P] (n : ℕ) (hP : ∀ k, P k → k < n) (h0 : 0 < n) (i : ℕ) : pick P i < n := by
  unfold pick
  split
  · next h => exact hP _ h.choose_spec.1
  · exact h0

theorem lastUp_pos (P : ℕ → Prop) [DecidablePred P] (n k : ℕ) (hk : k < n) (hP : P k) : 0 < lastUp P n := by
  induction n with
  | zero => omega
  | succ n ih =>
    unfold lastUp
    split
    · omega
    · next h => exact ih (lt_of_le_of_ne (by omega) fun e => h (e ▸ hP))

theorem entry_lt (t : S64.Idx → BitVec 32) (ht : ∀ j, (t j).toNat < 64) (i : ℕ) : entry t i < 64 := by
  unfold entry
  split
  · exact ht _
  · omega

theorem named_lt (t : S64.Idx → BitVec 32) (ht : ∀ j, (t j).toNat < 64) (e : ℕ) (h : Named t 64 e) : e < 64 := by
  obtain ⟨i, _, rfl⟩ := h
  exact entry_lt t ht i

theorem ids_lt (t : S64.Idx → BitVec 32) (ht : ∀ j, (t j).toNat < 64) (i : S64.Idx) : (idsOf t i).toNat < 64 := by
  unfold idsOf
  split
  · have h := pick_lt (Named t 64) 64 (named_lt t ht) (by omega) (i 0).val
    rw [BitVec.toNat_ofNat]; omega
  · have h1 := lastUp_pos (Named t 64) 64 (entry t 0) (entry_lt t ht 0) ⟨0, by omega, rfl⟩
    have h2 : lastUp (Named t 64) 64 ≤ 64 := lastUp_le 64
    rw [BitVec.toNat_sub, BitVec.toNat_ofNat, BitVec.toNat_ofNat]
    omega

theorem wd_lt (t : S64.Idx → BitVec 32) (ht : ∀ j, (t j).toNat < 64) (i : grid3.Coords) : (wd (F := F) (idsOf t) i).toNat < 64 := ids_lt t ht _

/-! ## The tables the expert call prefetches -/

section Tables

variable (m : (ℓ : Loc nD τ sig) → Buf (Elt F) ℓ) (h : Routed m)

def pfOf (d : Dev nD) : pre3.Contents (Elt F) := fun k => V8 m d (Proc.devRef .tc (pre3.ref k))

theorem pfOf_ids (d : Dev nD) : pfOf m d 0 = idsOf (tk m d) := V8_ids m d

include h in
theorem pfOf_lt (d : Dev nD) (i : grid3.Coords) : (wd (F := F) (pfOf m d 0) i).toNat < 64 := by
  rw [pfOf_ids]; exact wd_lt _ (h d) i

include h in
theorem pfOf_ok (d : Dev nD) : ok3 (pfOf m d) := by
  refine ⟨fun i => ⟨?_, .inl rfl⟩, fun i => ⟨?_, .inl rfl⟩, fun i => ⟨?_, .inl rfl⟩⟩ <;>
  · have hw := pfOf_lt m h d i
    have e := ix_word (F := F) (pfOf m d) i
    intro a
    match a with
    | 0 => show (cc3_transform_1 k3_off1_inb numel1_S1 (pfOf m d) i 0 + 1) * 1 ≤ 64
           omega
    | 1 => exact Nat.le_of_eq (Nat.one_mul _)
    | 2 => exact Nat.le_of_eq (Nat.one_mul _)
    | ⟨_ + 3, hh⟩ => exact absurd hh (Nat.not_lt.2 (Nat.le_add_left _ _))

def tab : (pcfg3 (F := F)).Adm := ⟨pfOf m 0, pfOf_ok m h 0⟩

def aT : (p : Fin 3) → (pcfgs (F := F) p).Adm
  | 0 => Pipeline.Cfg.toPCfg_adm _
  | 1 => Pipeline.Cfg.toPCfg_adm _
  | 2 => tab m h

theorem dev_zero (d : Dev nD) : d = 0 := Subsingleton.elim (α := Fin 1) d 0

/-! ## The regions' data and accounts -/

def pdatsT : (p : Fin 3) → (c : Dev nD) → Dat τ (Elt F) (HIx 1) ℕ UU ℕ (pin (pcfgs (F := F)) (aT m h) p) c
  | 0, c => dat0 (V1 m c) ((K (F := F)).Otc c 0) (low (F := F) 0 c) c
  | 1, c => dat2 (V5 m c) ((K (F := F)).Otc c 1) (low (F := F) 1 c) c
  | 2, c => dat3 (tab m h) (V8 m c) ((K (F := F)).Otc c 1) (low (F := F) 1 c) c

theorem low_none (n : ℕ) (d : Dev nD) (sm : SemLoc sig) : (sm, (none : HIx 1)) ∈ low (F := F) n d := Nat.zero_le _

theorem Otc_none (d : Dev nD) (n : ℕ) (g : GSem nD τ sig) : (K (F := F)).Otc d n g none = 0 := by
  by_contra hne
  have h1 := (K (F := F)).lev_of_Otc_pos (Nat.pos_of_ne_zero hne)
  have h2 : (K (F := F)).lev g none = 0 := rfl
  omega

theorem ready0 : Ready (aT m h) (pdatsT m h) 0 (fun d => (K (F := F)).Otc d 0) (low (F := F) 0) (V1 m) where
  kit := launch0
  body c := body0 _ _ _ c
  owed _ _ := rfl
  recorded _ _ := rfl
  none_mem c sm := low_none 0 c sm
  stages c g := Otc_none c 0 g
  share _ _ := ite_self _
  inv_in c t := by
    show iprop(scopedRest spec0 c ∗ tbls (aT m h) 0 c) ⊢ scopedRest spec0 c
    exact sep_elim_left
  inv_out c t := by
    show scopedRest spec0 c ⊢ iprop(scopedRest spec0 c ∗ tbls (aT m h) 0 c)
    rw [show tbls (aT m h) 0 c = (BI.emp : sProp 𝕄) from Pipeline.prefHeld_of_none _ rfl _ _ _]
    exact BI.sep_emp.2
  arrays _ _ := rfl
  tables _ k := k.elim0

theorem ready2 : Ready (aT m h) (pdatsT m h) 1 (fun d => (K (F := F)).Otc d 1) (low (F := F) 1) (V5 m) where
  kit := launch2
  body c := body2 _ _ _ c
  owed _ _ := rfl
  recorded _ _ := rfl
  none_mem c sm := low_none 1 c sm
  stages c g := Otc_none c 1 g
  share _ _ := ite_self _
  inv_in c t := by
    show iprop(scopedRest spec2 c ∗ tbls (aT m h) 1 c) ⊢ scopedRest spec2 c
    exact sep_elim_left
  inv_out c t := by
    show scopedRest spec2 c ⊢ iprop(scopedRest spec2 c ∗ tbls (aT m h) 1 c)
    rw [show tbls (aT m h) 1 c = (BI.emp : sProp 𝕄) from Pipeline.prefHeld_of_none _ rfl _ _ _]
    exact BI.sep_emp.2
  arrays _ _ := rfl
  tables _ k := k.elim0

theorem ready3 : Ready (aT m h) (pdatsT m h) 2 (fun d => (K (F := F)).Otc d 1) (low (F := F) 1) (V8 m) where
  kit := launch3
  body c := body3 _ _ _ _ c
  owed _ _ := rfl
  recorded _ _ := rfl
  none_mem c sm := low_none 1 c sm
  stages c g := Otc_none c 1 g
  share _ _ := ite_self _
  inv_in c t := by
    show iprop(scopedRest spec3 c ∗ tbls (aT m h) 2 c) ⊢ iprop(iprop(scopedRest spec3 c ∗ emp) ∗ tbls (aT m h) 2 c)
    iintro ⟨Hr, Ht⟩
    isplitl [Hr]
    · isplitl [Hr]; · iexact Hr
      iempintro
    iexact Ht
  inv_out c t := by
    show iprop(iprop(scopedRest spec3 c ∗ emp) ∗ tbls (aT m h) 2 c) ⊢ iprop(scopedRest spec3 c ∗ tbls (aT m h) 2 c)
    iintro ⟨⟨Hr, -⟩, Ht⟩
    isplitl [Hr]; · iexact Hr
    iexact Ht
  arrays _ _ := rfl
  tables c k := by rw [dev_zero c]; rfl

/-! ## The contents @main ends with -/

def V9 (d : Dev nD) : Valuation τ sig (Elt F) := afterRegion (dat3 (tab m h) (V8 m d) ((K (F := F)).Otc d 1) (low (F := F) 1 d) d) (V8 m d)
def V10 (d : Dev nD) : Valuation τ sig (Elt F) := opG.result (V9 m h d)

theorem V9_v8 (d : Dev nD) : at' (V9 m h d) main_v8 = accOf (tab m h) (V8 m d) 63 := after3_7 _ _ _ _ _
theorem V10_v9 (d : Dev nD) :
    at' (V10 m h d) main_v9 = shapeCast S32x1x1024 (accOf (tab m h) (V8 m d) 63) shapeCasts_S32x1024_S32x1x1024 := by
  refine (StableHlo.reshape_result _ _ _ _ _ _ _).trans ?_
  rw [← V9_v8]; rfl

/-- The arguments are as at the start. -/
theorem V10_arg (d : Dev nD) (r : Ref sig .tc)
    (hr : r ∉ [main_v0, main_v1_0, main_v1_1, main_v2, main_v3_0, main_v3_1, main_v4, main_v5, main_v6, main_v7]) (h8 : r ≠ main_v8) (h9 : r ≠ main_v9) :
    at' (V10 m h d) r = m ((d.tc : Thread nD τ).loc r) :=
  (StableHlo.reshape_result_ne _ _ _ _ _ _ _ h9).trans ((keep3 _ _ _ _ _ r h8).trans (V8_arg m d r hr))

end Tables

end Cert.Proof.Moe

end
-- ==== Proof.ScCall.lean ====
/-
  The SparseCore call as the launch sees it: what its handshakes carry — all of it to tile 0 of SparseCore 0, nothing to any
  other — and each tile's obligation.
-/
module

public import proofs.«01_k».proof.Proof.Stages

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ
local notation "tV" => (Memref.whole Cert.KernelIdeal.main_v2_scv : Memref Cert.KernelIdeal.sig Kind.scVector Space.hbm Cert.KernelIdeal.S64 EltTy.i32)
local notation "iV" => (Memref.whole Cert.KernelIdeal.main_v3_0_scv : Memref Cert.KernelIdeal.sig Kind.scVector Space.hbm Cert.KernelIdeal.S64 EltTy.i32)
local notation "nV" => (Memref.whole Cert.KernelIdeal.main_v3_1_scv : Memref Cert.KernelIdeal.sig Kind.scVector Space.hbm Cert.KernelIdeal.S16 EltTy.i32)
local notation "sT" => (Memref.whole Cert.KernelIdeal.cc1_scratch0 : Memref Cert.KernelIdeal.sig Kind.scVector Space.vmem Cert.KernelIdeal.S64 EltTy.i32)
local notation "sA" => (Memref.whole Cert.KernelIdeal.cc1_scratch1 : Memref Cert.KernelIdeal.sig Kind.scVector Space.vmem Cert.KernelIdeal.S64 EltTy.i32)
local notation "sR" => (Memref.whole Cert.KernelIdeal.cc1_scratch2 : Memref Cert.KernelIdeal.sig Kind.scVector Space.vmem Cert.KernelIdeal.S64 EltTy.i32)
local notation "sD" => (Memref.whole Cert.KernelIdeal.cc1_scratch3 : Memref Cert.KernelIdeal.sig Kind.scVector Space.vmem Cert.KernelIdeal.S64 EltTy.i32)
local notation "sN" => (Memref.whole Cert.KernelIdeal.cc1_scratch4 : Memref Cert.KernelIdeal.sig Kind.scVector Space.vmem Cert.KernelIdeal.S16 EltTy.i32)

theorem empties {I : Type} (s : Finset I) : (bigSep s fun _ => iprop(emp)) = (iprop(emp) : sProp 𝕄) := bigSep_emp_const s

/-- Of a family over a finite range that is empty past its first member, the first. -/
theorem bigSep_first {n : ℕ} (hn : 0 < n) (X : sProp 𝕄) : (bigSep Finset.univ fun i : Fin n => if i.val = 0 then X else iprop(emp)) = X := by
  rw [SparseCore.bigSep_erase' (Finset.mem_univ (⟨0, hn⟩ : Fin n)), if_pos rfl,
    bigSep_congr (Ψ := fun _ => (iprop(emp) : sProp 𝕄)) fun i hi => if_neg fun e => (Finset.mem_erase.1 hi).1 (Fin.ext e), empties]
  exact sep_emp_eq _

section Call

variable (m : (ℓ : Loc nD τ sig) → Buf (Elt F) ℓ) (h : Routed m)

/-- The call's three arrays before it, and after. -/
abbrev pre (d : Dev nD) : sProp 𝕄 := iprop(tPts d (tk m d) ∗ iPts d (at' (V3 m d) main_v3_0) ∗ nPts d (at' (V3 m d) main_v3_1))
abbrev post (d : Dev nD) : sProp 𝕄 := iprop(tPts d (tk m d) ∗ iPts d (idsOf (tk m d)) ∗ nPts d (nactOf (tk m d)))

def P : (K (F := F)).Pay (nD := nD) (Val := Elt F) (Name := ℕ) (U := UU) where
  st _ d c := if c.val = 0 then pre m d else iprop(emp)
  dn _ d c := if c.val = 0 then post m d else iprop(emp)
  go _ d c i := if c.val = 0 then (if i.val = 0 then pre m d else iprop(emp)) else iprop(emp)
  td _ d c i := if c.val = 0 then (if i.val = 0 then post m d else iprop(emp)) else iprop(emp)
  x _ _ := iprop(emp)

instance P_storable : (P m).IsStorable where
  st _ d c := by unfold P; dsimp only; split <;> infer_instance
  dn _ d c := by unfold P; dsimp only; split <;> infer_instance
  go _ d c i := by unfold P; dsimp only; split <;> [split <;> infer_instance; infer_instance]
  td _ d c i := by unfold P; dsimp only; split <;> [split <;> infer_instance; infer_instance]

theorem vecSplit : (K (F := F)).VecSplit' (P m) 0 := by
  intro d c
  unfold P; dsimp only
  split
  · rw [bigSep_first (show 0 < (K (F := F)).nSub 0 by rw [nSub_zero]; omega), bigSep_first (show 0 < (K (F := F)).nSub 0 by rw [nSub_zero]; omega)]
    iintro H; imodintro
    isplitl [H]; · iexact H
    iintro H; iexact H
  · rw [empties]
    iintro -; imodintro
    isplitr; · iempintro
    iintro -; iempintro

def coordsV (c : Fin (grid1.bound 0)) (s : Fin (grid1.bound 1)) : grid1.Coords :=
  fun | 0 => c | 1 => s | ⟨_ + 2, h⟩ => absurd h (Nat.not_lt.2 (Nat.le_add_left _ _))

/-- Only tile 0 of SparseCore 0 works. -/
theorem cond_iff : ∀ (c : Fin (grid1.bound 0)) (s : Fin (grid1.bound 1)), k1_cond1 (coordsV c s) = 1#1 ↔ c.val = 0 ∧ s.val = 0 := by
  decide +kernel

theorem defs₀_vector (c : Fin τ.nSC) (s : Fin τ.nSub) : defs₀ (F := F) (.scVector c s) 1 () =
    SparseCore.onTile hcore1 hsub1 (fun c s => cc1__sc_compact_body (coordsV c s) tV (Memref.isWhole_whole _) iV (Memref.isWhole_whole _) nV (Memref.isWhole_whole _)
            sT (Memref.isWhole_whole _) sA (Memref.isWhole_whole _) sR (Memref.isWhole_whole _) sD (Memref.isWhole_whole _) sN (Memref.isWhole_whole _)
            cc1_scoped0 cc1_scoped1 cc1_scoped2) ⟨⟩ c s := rfl

theorem idle_work (d : Dev nD) (L : grid1.Coords) (hC : k1_cond1 L ≠ 1#1) (O : CellTallies nD τ sig (HIx 1)) (W : Waits sig (HIx 1)) :
    (iprop(scopedBufs (thr d L) ∗ scopedSems0 (thr d L) ∗ owes (thr d L) O W) : sProp 𝕄)
      ⊢ wp frame (wpE (defs₀ (F := F)) 𝒱₀ (thr d L) none) Set.univ
          (cc1__sc_compact_body L tV (Memref.isWhole_whole _) iV (Memref.isWhole_whole _) nV (Memref.isWhole_whole _)
            sT (Memref.isWhole_whole _) sA (Memref.isWhole_whole _) sR (Memref.isWhole_whole _) sD (Memref.isWhole_whole _) sN (Memref.isWhole_whole _)
            cc1_scoped0 cc1_scoped1 cc1_scoped2)
          fun _ => iprop(scopedBufs (thr d L) ∗ scopedSems0 (thr d L)
            ∗ ∃ W', ⌜∀ p ∈ W', p ∈ W ∨ p.2 = none ∨ p.2 = some (0 : Fin 1)⌝ ∗ owes (thr d L) O W') := by
  unfold cc1__sc_compact_body
  rw [dif_neg hC]
  iintro ⟨Hb, Hs, HO⟩
  rw [wp_pure]; imodintro
  isplitl [Hb]; · iexact Hb
  isplitl [Hs]; · iexact Hs
  iexists W
  isplitr; · ipureintro; exact fun p hp => .inl hp
  iexact HO

include h in
theorem tile_body (d : Dev nD) (c : Fin (grid1.bound 0)) (s : Fin (grid1.bound 1)) (hF : (K (F := F)).Facts)
    (O : CellTallies nD τ sig (HIx 1)) (W : Waits sig (HIx 1)) (hO : ∀ g, O g none = 0) :
    iprop(levAts (K (F := F)).L (K (F := F)).lev ∗ emp ∗ (if c.val = 0 then (if s.val = 0 then pre m d else iprop(emp)) else iprop(emp))
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc1__sc_compact_body (coordsV c s) tV (Memref.isWhole_whole _) iV (Memref.isWhole_whole _) nV (Memref.isWhole_whole _)
            sT (Memref.isWhole_whole _) sA (Memref.isWhole_whole _) sR (Memref.isWhole_whole _) sD (Memref.isWhole_whole _) sN (Memref.isWhole_whole _)
            cc1_scoped0 cc1_scoped1 cc1_scoped2)
          fun _ => iprop((if c.val = 0 then (if s.val = 0 then post m d else iprop(emp)) else iprop(emp))
            ∗ scopedBufs (thr d (coordsV c s)) ∗ scopedSems0 (thr d (coordsV c s))
            ∗ ∃ W', ⌜∀ p ∈ W', p ∈ W ∨ p.2 = none ∨ p.2 = some (0 : Fin 1)⌝ ∗ owes (thr d (coordsV c s)) O W') := by
  by_cases hC : k1_cond1 (coordsV c s) = 1#1
  · obtain ⟨hc, hs⟩ := (cond_iff c s).1 hC
    rw [if_pos hc, if_pos hs, if_pos hc, if_pos hs]
    refine BIBase.Entails.trans ?_ (tile_work d (coordsV c s) hC (tk m d) (h d) (at' (V3 m d) main_v3_0) (at' (V3 m d) main_v3_1) hF O W hO)
    iintro ⟨Hl, -, Hp, Hr⟩
    isplitl [Hl]; · iexact Hl
    isplitl [Hp]; · iexact Hp
    iexact Hr
  · have hn : ¬(c.val = 0 ∧ s.val = 0) := fun e => hC ((cond_iff c s).2 e)
    have e (X : sProp 𝕄) : (if c.val = 0 then (if s.val = 0 then X else iprop(emp)) else iprop(emp)) = (iprop(emp) : sProp 𝕄) := by
      by_cases hc : c.val = 0
      · rw [if_pos hc, if_neg fun hs => hn ⟨hc, hs⟩]
      · rw [if_neg hc]
    rw [e, e]
    refine BIBase.Entails.trans ?_ ((idle_work d (coordsV c s) hC O W).trans (wp_mono _ _ _ fun _ => ?_))
    · iintro ⟨-, -, -, Hr⟩
      iexact Hr
    · iintro H
      isplitr; · iempintro
      iexact H

include h in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m h d ⟨_, hci.1⟩ ⟨_, hci.2⟩ hF O W hO

end Call

end Cert.Proof.Moe

end
-- ==== Proof.Whole.lean ====
/-
  The whole program's run: from any memory on which the routing call's indices name experts, @main ends with its buffers as
  `V10` has them and every semaphore counter at zero.
-/
module

public import proofs.«01_k».proof.Proof.ScCall

@[expose] public section

noncomputable section

namespace Cert.Proof.Moe

open Cert.KernelIdeal Cert.KernelIdeal.Gen

open Idealize.ShloMosaic
open Idealize.ShloMosaic.Pipeline (pin ucRefs afterRegion cells launchToks cellsGhost toksInit)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open TcCoe

variable {F : FTy → Type} [FloatOps F]

local notation "𝕄" => MT nD τ sig (HIx 1) (Elt F) ℕ UU ℕ

section Run

variable (m : (ℓ : Loc nD τ sig) → Buf (Elt F) ℓ) (h : Routed m) (ρ : Dev nD → PrngReg)

/-! ## The launch's ghost state -/

def u₀ : UU := (initOf (K (F := F)).hsCells (K (F := F)).hsToks,
  (initOf (cells (pin (pcfgs (F := F)) (aT m h)) (cellOf_inj (aT m h))) (launchToks (pin (pcfgs (F := F)) (aT m h)) (cellOf_inj (aT m h))), 1))

/-- The pipelines' ghost state on one device. -/
abbrev G (d : Dev nD) : sProp 𝕄 :=
  iprop((bigSep Finset.univ fun p : Fin 3 => cellsGhost (pin (pcfgs (F := F)) (aT m h)) EP p d)
    ∗ bigSep Finset.univ fun p : Fin 3 => toksInit (pin (pcfgs (F := F)) (aT m h)) EP p d)

theorem hu₀ : (ownU (u₀ m h) : sProp 𝕄)
    ⊢ |={Set.univ}=> iprop(BI.own (EH (initOf (K (F := F)).hsCells (K (F := F)).hsToks)) ∗ (bigSep Finset.univ fun d : Dev nD => G m h d)
        ∗ bigSep Finset.univ fun thr : Thread nD τ => bigSep Finset.univ fun q : Fin 1 => (P m).x q thr) := by
  unfold u₀
  iintro Hu
  ihave H := (ownU_pair _ _) $$ Hu
  icases H with ⟨HH, HR⟩
  ihave H := (own_pair_emb _ _ _) $$ HR
  icases H with ⟨HP, -⟩
  ihave HP := (show (BI.own (((Emb.inl : Emb UK (UK × Counters)).trans embR)
      (initOf (cells (pin (pcfgs (F := F)) (aT m h)) (cellOf_inj (aT m h))) (launchToks (pin (pcfgs (F := F)) (aT m h)) (cellOf_inj (aT m h))))) : sProp 𝕄)
      ⊢ BI.own (EP (initOf (cells (pin (pcfgs (F := F)) (aT m h)) (cellOf_inj (aT m h))) (launchToks (pin (pcfgs (F := F)) (aT m h)) (cellOf_inj (aT m h))))) from
    BIBase.Entails.rfl) $$ HP
  imod (Pipeline.fund_ghost (pin (pcfgs (F := F)) (aT m h)) EP (cellOf_inj (aT m h))) $$ HP with ⟨Hg, Ht⟩
  imodintro
  isplitl [HH]; · iexact HH
  isplitl [Hg Ht]
  · rw [bigSep_sep']
    isplitl [Hg] <;> iassumption
  rw [show (bigSep Finset.univ fun thr : Thread nD τ => bigSep Finset.univ fun q : Fin 1 => (P m).x q thr) = bigSep Finset.univ fun _ => iprop(emp) from
    bigSep_congr fun _ _ => bigSep_univ_of_subsingleton (0 : Fin 1), empties]
  iempintro

/-! ## What the TensorCore keeps between the calls -/

/-- The TensorCore's state before call `n` beside what it owes. -/
abbrev side (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem state_in (d : Dev nD) (n : ℕ) :
    (K (F := F)).tcSt EH d n ⊢ (iprop(owing (fun d => (K (F := F)).Otc d n) (low (F := F) n) d ∗ side d n) : sProp 𝕄) := by
  unfold SparseCore.Cfg.tcSt
  iintro ⟨⟨%Wd, %hW, HO⟩, Hr⟩
  isplitl [HO]
  · iexists Wd
    isplitr; · ipureintro; exact fun p hp => hW p hp
    iexact HO
  iexact Hr

theorem state_out (d : Dev nD) (n : ℕ) :
    (iprop(owing (fun d => (K (F := F)).Otc d n) (low (F := F) n) d ∗ side d n) : sProp 𝕄) ⊢ (K (F := F)).tcSt EH d n := by
  unfold SparseCore.Cfg.tcSt
  iintro ⟨⟨%Wd, %hW, HO⟩, Hr⟩
  isplitl [HO]
  · iexists Wd
    isplitr; · ipureintro; exact fun p hp => hW hp
    iexact HO
  iexact Hr

/-! ## The SparseCore call's three arrays among the buffers -/

abbrev three : Finset (DevRef τ sig) := {Proc.devRef .tc main_v2, Proc.devRef .tc main_v3_0, Proc.devRef .tc main_v3_1}

theorem three_sub : three ⊆ ucRefs τ sig := by decide +kernel

theorem held_three (d : Dev nD) (W : Valuation τ sig (Elt F)) :
    (StableHlo.held (d.tc : Thread nD τ) three W : sProp 𝕄)
      = iprop(tPts d (at' W main_v2) ∗ iPts d (at' W main_v3_0) ∗ nPts d (at' W main_v3_1)) := by
  unfold StableHlo.held
  rw [SparseCore.bigSep_insert' (by decide), SparseCore.bigSep_insert' (by decide), bigSep_singleton]

theorem call_in (d : Dev nD) :
    (StableHlo.held (d.tc : Thread nD τ) (ucRefs τ sig) (V3 m d) : sProp 𝕄)
      = iprop(pre m d ∗ StableHlo.held (d.tc : Thread nD τ) (ucRefs τ sig \ three) (V3 m d)) := by
  rw [StableHlo.held_sub_split _ three_sub, held_three]; rfl

theorem call_out (d : Dev nD) :
    (StableHlo.held (d.tc : Thread nD τ) (ucRefs τ sig) (V4 m d) : sProp 𝕄)
      = iprop(post m d ∗ StableHlo.held (d.tc : Thread nD τ) (ucRefs τ sig \ three) (V3 m d)) := by
  rw [StableHlo.held_sub_split _ three_sub, held_three,
    V4_off m d main_v2 (by decide) (by decide), V4_ids, V4_cnt,
    StableHlo.held_congr (V := V4 m d) (V' := V3 m d) _ fun b hb => ?_]
  · rfl
  · have hb' := (Finset.mem_sdiff.1 hb).2
    rw [V4, Function.update_of_ne (fun e => hb' (by rw [e]; decide)), Function.update_of_ne (fun e => hb' (by rw [e]; decide))]

theorem st0_eq (d : Dev nD) : (bigSep Finset.univ fun c : Fin ((K (F := F)).nCore 0) => (P m).st 0 d c) = pre m d :=
  bigSep_first (show 0 < (K (F := F)).nCore 0 by rw [nCore_zero]; omega) _
theorem dn0_eq (d : Dev nD) : (bigSep Finset.univ fun c : Fin ((K (F := F)).nCore 0) => (P m).dn 0 d c) = post m d :=
  bigSep_first (show 0 < (K (F := F)).nCore 0 by rw [nCore_zero]; omega) _

/-! ## @main -/

abbrev FIN (d : Dev nD) : sProp 𝕄 := StableHlo.held (d.tc : Thread nD τ) (ucRefs τ sig) (V10 m h d)

theorem ghosts (d : Dev nD) : G m h d = (iprop(
    (cellsGhost (pin (pcfgs (F := F)) (aT m h)) EP 0 d ∗ cellsGhost (pin (pcfgs (F := F)) (aT m h)) EP 1 d ∗ cellsGhost (pin (pcfgs (F := F)) (aT m h)) EP 2 d)
    ∗ (toksInit (pin (pcfgs (F := F)) (aT m h)) EP 0 d ∗ toksInit (pin (pcfgs (F := F)) (aT m h)) EP 1 d ∗ toksInit (pin (pcfgs (F := F)) (aT m h)) EP 2 d)) : sProp 𝕄) := by
  unfold G
  rw [show (Finset.univ : Finset (Fin 3)) = {0, 1, 2} by decide,
    SparseCore.bigSep_insert' (by decide), SparseCore.bigSep_insert' (by decide), bigSep_singleton,
    SparseCore.bigSep_insert' (by decide), SparseCore.bigSep_insert' (by decide), bigSep_singleton]

theorem subA : (opA (F := F)).bufs ⊆ ucRefs τ sig := Pipeline.sub_ucRefs _ (StableHlo.reshape_bufs_sub ..)
theorem subB : (opB (F := F)).bufs ⊆ ucRefs τ sig := Pipeline.sub_ucRefs _ (StableHlo.reshape_bufs_sub ..)
theorem subC : (opC (F := F)).bufs ⊆ ucRefs τ sig := Pipeline.sub_ucRefs _ (StableHlo.unary_bufs_sub ..)
theorem subD : (opD (F := F)).bufs ⊆ ucRefs τ sig := Pipeline.sub_ucRefs _ (StableHlo.reshape_bufs_sub ..)
theorem subE : (opE (F := F)).bufs ⊆ ucRefs τ sig := Pipeline.sub_ucRefs _ (StableHlo.reshape_bufs_sub ..)
theorem subG : (opG (F := F)).bufs ⊆ ucRefs τ sig := Pipeline.sub_ucRefs _ (StableHlo.reshape_bufs_sub ..)

set_option maxHeartbeats 1000000 in
theorem hmain (κ : GSem nD τ sig → ℕ) (d : Dev nD) :
    iprop((K (F := F)).ctx EH (P m) κ ∗ (K (F := F)).tcSt EH d 0 ∗ (K (F := F)).tcRes m ρ d ∗ G m h d)
      ⊢ wp frame (wpE ((K (F := F)).defs (D (F := F))) 𝒱 (SparseCore.T d) none) Set.univ (main d)
          fun _ => iprop((K (F := F)).tcSt EH d 1 ∗ FIN m h d ∗ (K (F := F)).tcEnd d) := by
  unfold SparseCore.Cfg.tcRes SparseCore.Cfg.tcEnd
  rw [ghosts, show (unscopedBufs d fun b => m ((SparseCore.T d).loc b) : sProp 𝕄) = StableHlo.held (d.tc : Thread nD τ) (ucRefs τ sig) (V0 m d) from
    Pipeline.unscopedBufs_held d (V0 m d)]
  simp only [main, wp_bind, wp_pure]
  iintro ⟨#Hctx, Hst, ⟨Hb, Hheld, Hts, -⟩, ⟨Hg0, Hg1, Hg2⟩, Ht0, Ht1, Ht2⟩
  ihave #Hlev := (SparseCore.Cfg.ctx_levAts (K := K (F := F)) (P := P m) κ) $$ Hctx
  -- the tokens' rows
  iapply (StableHlo.wp_hlo_within 𝒱 (SparseCore.T d) none Set.univ (op := opA) (S := ucRefs τ sig) subA (V := V0 m d)) $$ [Hb Hheld]
  · isplitl [Hb] <;> iassumption
  iintro ⟨Hb, Hheld⟩; rw [wp_ret]; imodintro
  -- the routing call
  ihave Hst := (state_in (F := F) d 0) $$ Hst
  icases Hst with ⟨HO, Hside⟩
  iapply ((ready0 m h).run d _)
  isplitl [Hside Hts Hg1 Hg2 Ht1 Ht2]
  rotate_left
  · isplitl [Hb]; · iexact Hb
    isplitl [Hheld HO]
    · isplitl [Hheld]; · iexact Hheld
      iexact HO
    isplitr; · iexact Hlev
    isplitl [Hg0] <;> iassumption
  iintro ⟨Hb, Hheld, HO⟩
  iapply (StableHlo.wp_hlo_within 𝒱 (SparseCore.T d) none Set.univ (op := opB) (S := ucRefs τ sig) subB (V := V2 m d)) $$ [Hb Hheld]
  · isplitl [Hb]; · iexact Hb
    iexact Hheld
  iintro ⟨Hb, Hheld⟩; rw [wp_ret]; imodintro
  -- the SparseCore call
  ihave Hst := (state_out (F := F) d 0) $$ [HO Hside]
  · isplitl [HO] <;> iassumption
  ihave Hc := (show (StableHlo.held (SparseCore.T d) (ucRefs τ sig) (opB.result (V2 m d)) : sProp 𝕄) ⊢
      iprop(pre m d ∗ StableHlo.held (d.tc : Thread nD τ) (ucRefs τ sig \ three) (V3 m d)) from BIBase.Entails.of_eq (call_in m d)) $$ Hheld
  icases Hc with ⟨Hpre, Hheld⟩
  iapply ((K (F := F)).wp_run (D (F := F)) 𝒱 (EH := EH) (P := P m) κ d 0)
  isplitr; · iexact Hctx
  isplitl [Hst]; · iexact Hst
  isplitl [Hpre]
  · rw [st0_eq]; iexact Hpre
  iintro ⟨Hst, Hdn⟩
  ihave Hpost := (BIBase.Entails.of_eq (dn0_eq m d)) $$ Hdn
  ihave Hheld := (BIBase.Entails.of_eq (call_out m d).symm) $$ [Hpost Hheld]
  · isplitl [Hpost] <;> iassumption
  iapply (StableHlo.wp_hlo_within 𝒱 (SparseCore.T d) none Set.univ (op := opC) (S := ucRefs τ sig) subC (V := V4 m d)) $$ [Hb Hheld]
  · isplitl [Hb] <;> iassumption
  iintro ⟨Hb, Hheld⟩; rw [wp_ret]; imodintro
  -- the shared expert's call
  ihave Hst := (show (K (F := F)).tcSt EH d ((0 : Fin 1).val + 1) ⊢ (iprop(owing (fun d => (K (F := F)).Otc d 1) (low (F := F) 1) d ∗ side d 1) : sProp 𝕄) from
    state_in (F := F) d 1) $$ Hst
  icases Hst with ⟨HO, Hside⟩
  iapply ((ready2 m h).run d _)
  isplitl [Hside Hts Hg2 Ht2]
  rotate_left
  · isplitl [Hb]; · iexact Hb
    isplitl [Hheld HO]
    · isplitl [Hheld]; · iexact Hheld
      iexact HO
    isplitr; · iexact Hlev
    isplitl [Hg1] <;> iassumption
  iintro ⟨Hb, Hheld, HO⟩
  iapply (StableHlo.wp_hlo_within 𝒱 (SparseCore.T d) none Set.univ (op := opD) (S := ucRefs τ sig) subD (V := V6 m d)) $$ [Hb Hheld]
  · isplitl [Hb]; · iexact Hb
    iexact Hheld
  iintro ⟨Hb, Hheld⟩; rw [wp_ret]; imodintro
  iapply (StableHlo.wp_hlo_within 𝒱 (SparseCore.T d) none Set.univ (op := opE) (S := ucRefs τ sig) subE (V := V7 m d)) $$ [Hb Hheld]
  · isplitl [Hb]; · iexact Hb
    iexact Hheld
  iintro ⟨Hb, Hheld⟩; rw [wp_ret]; imodintro
  -- the experts' call
  iapply ((ready3 m h).run d _)
  isplitl [Hside Hts]
  rotate_left
  · isplitl [Hb]; · iexact Hb
    isplitl [Hheld HO]
    · isplitl [Hheld]; · iexact Hheld
      iexact HO
    isplitr; · iexact Hlev
    isplitl [Hg2] <;> iassumption
  iintro ⟨Hb, Hheld, HO⟩
  iapply (StableHlo.wp_hlo_within 𝒱 (SparseCore.T d) none Set.univ (op := opG) (S := ucRefs τ sig) subG (V := V9 m h d)) $$ [Hb Hheld]
  · isplitl [Hb]; · iexact Hb
    iexact Hheld
  iintro ⟨Hb, Hheld⟩; rw [wp_ret]; imodintro
  imodintro
  isplitl [HO Hside]
  · iapply (state_out (F := F) d 1)
    isplitl [HO] <;> iassumption
  isplitl [Hheld]; · iexact Hheld
  isplitl [Hb] <;> iassumption

/-! ## What the run ends with -/

def fq (d : Dev nD) (s' : Phys nD τ sig (Elt F)) : Prop :=
  ∀ r : {r : Ref sig .tc // r.isScoped = false}, s'.mem.mem ((d.tc : Thread nD τ).loc r.1) = at' (V10 m h d) r.1

theorem hfin (d : Dev nD) (s' : Phys nD τ sig (Elt F)) : iprop(FIN m h d ∗ SI s') ⊢ (⌜fq m h d s'⌝ : sProp 𝕄) := by
  unfold fq
  refine BIBase.Entails.trans ?_ (Laws.pure_forall (PROP := sProp 𝕄)).2
  refine forall_intro fun r => ?_
  have hel : (FIN m h d : sProp 𝕄) ⊢ ((d.tc : Thread nD τ).loc r.1 ↦{fullShare} at' (V10 m h d) r.1) :=
    bigSep_elim (Φ := fun b : DevRef τ sig => (((d.tc : Thread nD τ).1, b) ↦{fullShare} V10 m h d b : sProp 𝕄)) (Pipeline.devRef_mem_ucRefs r.2)
  iintro ⟨Hh, HSI⟩
  ihave Hp := hel $$ Hh
  ihave H := (SI_pointsTo_agree (st := s') (ℓ := (d.tc : Thread nD τ).loc r.1) (I := Finset.univ) (q := fullShare) (f := at' (V10 m h d) r.1)) $$ [HSI Hp]
  · isplitl [HSI] <;> iassumption
  icases H with %hx
  ipureintro; exact funext fun i => hx i (Finset.mem_univ i)

def QC : PUnit × MemSt nD τ sig (Elt F) → Prop := fun r =>
  (∀ (d : Dev nD) (r' : {r : Ref sig .tc // r.isScoped = false}), r.2.mem ((d.tc : Thread nD τ).loc r'.1) = at' (V10 m h d) r'.1) ∧ r.2.sem = fun _ => 0

theorem run_main [∀ e, Nonempty (Elt F e)] : θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m h facts)
    (fun q _ => match q with | 0 => SparseCore.Cfg.VecSplit.of_plain (vecSplit m))
    m ρ main (G m h) (FIN m h) (u₀ m h) (sep_elim_left.trans (hu₀ m h)) (hmain m h ρ) (fq m h) (hfin m h) (QC m h) (fun _ hh hz => ⟨hh, hz⟩)

end Run

end Cert.Proof.Moe

end
-- ==== Proof.Row.lean ====
/- One row of the routing at the ideal instance: the score of each expert, the greatest and the
   second greatest with the expert that attains each first, and the stable sort's two first
   positions. Only functions of sixty-four extended reals; no program. -/
module

public import Idealize.ShloMosaic.PureOps.Reduce
public import Idealize.ShloMosaic.PureOps.Ideal.Laws
public import Idealize.ShloMosaic.Lib.SortFacts

@[expose] public section

noncomputable section

namespace Cert.Proof.Moe

open Idealize.ShloMosaic

/-! ## The greatest entry and the first that attains it -/

/-- The greatest entry of a row. -/
def mx (s : Fin 64 → EReal) : EReal := Finset.univ.fold max ⊥ s

theorem le_mx (s : Fin 64 → EReal) (e : Fin 64) : s e ≤ mx s :=
  (Finset.le_fold_max _).2 (.inr ⟨e, Finset.mem_univ e, le_rfl⟩)

theorem mx_attained (s : Fin 64 → EReal) : ∃ e, s e = mx s := by
  obtain ⟨e, he⟩ := Finite.exists_max s
  exact ⟨e, le_antisymm (le_mx s e) ((Finset.fold_max_le _).2 ⟨bot_le, fun x _ => he x⟩)⟩

theorem mx_eq (s : Fin 64 → EReal) (p : Fin 64) (h : ∀ q, s q ≤ s p) : mx s = s p := by
  obtain ⟨e, he⟩ := mx_attained s
  exact le_antisymm (he ▸ h e) (le_mx s p)

/-- The word a row's search for its greatest entry returns: the least of the positions that attain
    it, every other position counting as sixty-four. -/
def firstW (s : Fin 64 → EReal) : BitVec 32 :=
  Finset.univ.fold IntOp.minsi 2147483647#32 fun e => if s e = mx s then BitVec.ofNat 32 e.val else 64#32

/-- A signed minimum is one of its operands and is below each. -/
theorem fold_minsi (f : Fin 64 → BitVec 32) (t : Finset (Fin 64)) :
    (t.fold IntOp.minsi 2147483647#32 f = 2147483647#32 ∨ ∃ e ∈ t, t.fold IntOp.minsi 2147483647#32 f = f e)
      ∧ ∀ e ∈ t, (t.fold IntOp.minsi 2147483647#32 f).toInt ≤ (f e).toInt := by
  induction t using Finset.induction_on with
  | empty => exact ⟨.inl rfl, fun e he => absurd he (Finset.notMem_empty e)⟩
  | insert a t ha ih =>
    rw [Finset.fold_insert ha]
    rw [show ∀ x y : BitVec 32, IntOp.minsi x y = if x.slt y then x else y from fun _ _ => rfl]
    by_cases hlt : (f a).slt (t.fold IntOp.minsi 2147483647#32 f) = true
    · rw [if_pos hlt]
      have hlt' : (f a).toInt < (t.fold IntOp.minsi 2147483647#32 f).toInt := by
        simpa [BitVec.slt] using hlt
      refine ⟨.inr ⟨a, Finset.mem_insert_self a t, rfl⟩, fun e he => ?_⟩
      rcases Finset.mem_insert.1 he with rfl | he
      · exact le_rfl
      · exact hlt'.le.trans (ih.2 e he)
    · rw [if_neg hlt]
      have hle : (t.fold IntOp.minsi 2147483647#32 f).toInt ≤ (f a).toInt := by
        have : ¬ (f a).toInt < (t.fold IntOp.minsi 2147483647#32 f).toInt := by
          simpa [BitVec.slt] using hlt
        omega
      refine ⟨ih.1.imp id fun ⟨e, he, h⟩ => ⟨e, Finset.mem_insert_of_mem he, h⟩, fun e he => ?_⟩
      rcases Finset.mem_insert.1 he with rfl | he
      · exact hle
      · exact ih.2 e he

theorem toInt_pos (e : Fin 64) : (BitVec.ofNat 32 e.val).toInt = (e.val : ℤ) := by
  have : e.val < 64 := e.isLt
  rw [BitVec.toInt_eq_toNat_cond, BitVec.toNat_ofNat, Nat.mod_eq_of_lt (by omega), if_pos (by omega)]

theorem toNat_pos (e : Fin 64) : (BitVec.ofNat 32 e.val).toNat = e.val := by
  have : e.val < 64 := e.isLt
  rw [BitVec.toNat_ofNat, Nat.mod_eq_of_lt (by omega)]

theorem word_inj {e e' : Fin 64} (h : BitVec.ofNat 32 e.val = BitVec.ofNat 32 e'.val) : e = e' :=
  Fin.ext (by rw [← toNat_pos e, h, toNat_pos e'])

/-- Position `p` holds the row's greatest entry, and no earlier position does. -/
def IsFirst (s : Fin 64 → EReal) (p : Fin 64) : Prop := ∀ q, q ≠ p → s q < s p ∨ (s q = s p ∧ p < q)

/-- Position `r` comes first among the positions other than `p`. -/
def IsSecond (s : Fin 64 → EReal) (p r : Fin 64) : Prop :=
  r ≠ p ∧ ∀ q, q ≠ p → q ≠ r → s q < s r ∨ (s q = s r ∧ r < q)

theorem IsFirst.unique {s : Fin 64 → EReal} {p p' : Fin 64} (h : IsFirst s p) (h' : IsFirst s p') : p = p' := by
  by_contra hne
  rcases h p' (Ne.symm hne) with h1 | ⟨h1, h2⟩
  · rcases h' p hne with h3 | ⟨h3, -⟩
    · exact absurd (h1.trans h3) (lt_irrefl _)
    · exact absurd (h3 ▸ h1) (lt_irrefl _)
  · rcases h' p hne with h3 | ⟨-, h4⟩
    · exact absurd (h1 ▸ h3) (lt_irrefl _)
    · exact absurd (h2.trans h4) (lt_irrefl _)

theorem IsSecond.unique {s : Fin 64 → EReal} {p r r' : Fin 64} (h : IsSecond s p r) (h' : IsSecond s p r') : r = r' := by
  by_contra hne
  rcases h.2 r' h'.1 (Ne.symm hne) with h1 | ⟨h1, h2⟩
  · rcases h'.2 r h.1 hne with h3 | ⟨h3, -⟩
    · exact absurd (h1.trans h3) (lt_irrefl _)
    · exact absurd (h3 ▸ h1) (lt_irrefl _)
  · rcases h'.2 r h.1 hne with h3 | ⟨-, h4⟩
    · exact absurd (h1 ▸ h3) (lt_irrefl _)
    · exact absurd (h2.trans h4) (lt_irrefl _)

/-- The search finds the first position that attains the greatest entry. -/
theorem firstW_spec (s : Fin 64 → EReal) :
    ∃ p : Fin 64, firstW s = BitVec.ofNat 32 p.val ∧ IsFirst s p ∧ s p = mx s := by
  obtain ⟨hone, hle⟩ := fold_minsi (fun e => if s e = mx s then BitVec.ofNat 32 e.val else 64#32) Finset.univ
  change (firstW s = _ ∨ ∃ e ∈ _, firstW s = _) at hone
  change ∀ e ∈ _, (firstW s).toInt ≤ _ at hle
  obtain ⟨e₀, he₀⟩ := mx_attained s
  have h0 : (firstW s).toInt ≤ (e₀.val : ℤ) := by
    have := hle e₀ (Finset.mem_univ _)
    rwa [if_pos he₀, toInt_pos] at this
  have hlt : (e₀.val : ℤ) < 64 := by have := e₀.isLt; omega
  rcases hone with h | ⟨p, -, h⟩
  · rw [h] at h0
    have : (2147483647#32 : BitVec 32).toInt = 2147483647 := by decide
    omega
  · by_cases hp : s p = mx s
    · rw [if_pos hp] at h
      refine ⟨p, h, fun q hq => ?_, hp⟩
      rcases (le_mx s q).lt_or_eq with hl | he
      · exact .inl (hp ▸ hl)
      · refine .inr ⟨he.trans hp.symm, ?_⟩
        have := hle q (Finset.mem_univ _)
        rw [if_pos he, h, toInt_pos, toInt_pos] at this
        exact lt_of_le_of_ne (by rw [Fin.le_def]; omega) (Ne.symm hq)
    · rw [if_neg hp] at h
      rw [h] at h0
      have : (64#32 : BitVec 32).toInt = 64 := by decide
      omega

/-- The row with the position named by `w` taken out. -/
def knock (s : Fin 64 → EReal) (w : BitVec 32) (e : Fin 64) : EReal := if BitVec.ofNat 32 e.val = w then ⊥ else s e

theorem knock_self (s : Fin 64 → EReal) (p : Fin 64) : knock s (BitVec.ofNat 32 p.val) p = ⊥ := if_pos rfl

theorem knock_ne (s : Fin 64 → EReal) {p q : Fin 64} (h : q ≠ p) : knock s (BitVec.ofNat 32 p.val) q = s q :=
  if_neg fun hh => h (word_inj hh)

/-- With no entry at −∞, the search in the row without `p` finds the first of the others. -/
theorem secondW_spec (s : Fin 64 → EReal) (hs : ∀ e, s e ≠ ⊥) (p : Fin 64) :
    ∃ r : Fin 64, firstW (knock s (BitVec.ofNat 32 p.val)) = BitVec.ofNat 32 r.val ∧ IsSecond s p r
      ∧ s r = mx (knock s (BitVec.ofNat 32 p.val)) := by
  obtain ⟨r, hr, hf, hm⟩ := firstW_spec (knock s (BitVec.ofNat 32 p.val))
  have hrp : r ≠ p := by
    rintro rfl
    rw [knock_self] at hm
    obtain ⟨q, hq⟩ : ∃ q : Fin 64, q ≠ r := exists_ne r
    have := le_mx (knock s (BitVec.ofNat 32 r.val)) q
    rw [← hm, knock_ne s hq] at this
    exact hs q (le_bot_iff.1 this)
  refine ⟨r, hr, ⟨hrp, fun q hqp hqr => ?_⟩, ?_⟩
  · have := hf q hqr
    rwa [knock_ne s hqp, knock_ne s hrp] at this
  · rw [← hm, knock_ne s hrp]

/-! ## The scores -/

/-- The scores of a row: each entry's exponential over the sum of all, the greatest entry taken off
    first. -/
def score (l : Fin 64 → EReal) (e : Fin 64) : EReal :=
  Ideal.div (Ideal.exp (l e - mx l)) (∑ k, Ideal.exp (l k - mx l))

theorem exp_nonneg (x : EReal) : 0 ≤ Ideal.exp x := by
  induction x with
  | bot => exact le_rfl
  | top => exact le_top
  | coe r => exact EReal.coe_nonneg.2 (Real.exp_pos r).le

/-- Either every score of a row is −∞ (when an entry is infinite above, or all are below) or none is. -/
theorem score_cases (l : Fin 64 → EReal) : (∀ e, score l e = ⊥) ∨ ∀ e, score l e ≠ ⊥ := by
  by_cases hD : ∑ k, Ideal.exp (l k - mx l) = 0
  · left
    intro e
    have h0 : Ideal.exp (l e - mx l) = 0 :=
      (Finset.sum_eq_zero_iff_of_nonneg fun k _ => exp_nonneg _).1 hD e (Finset.mem_univ e)
    unfold score Ideal.div
    rw [if_pos hD, h0, if_neg (lt_irrefl _)]
  · right
    intro e hb
    unfold score Ideal.div at hb
    rw [if_neg hD] at hb
    have : 0 ≤ Ideal.exp (l e - mx l) * (∑ k, Ideal.exp (l k - mx l))⁻¹ :=
      mul_nonneg (exp_nonneg _) (EReal.inv_nonneg_of_nonneg (Finset.sum_nonneg fun k _ => exp_nonneg _))
    rw [hb] at this
    exact absurd this (by simp)

/-! ## The weights -/

/-- A chosen score's weight: its share of the two chosen scores, scaled. -/
def weight (a m₁ m₂ : EReal) : EReal :=
  Ideal.div a (m₁ + m₂ + Ideal.ofBits FTy.f32 0x1E3CE508#32) * Ideal.ofBits FTy.f32 0x40200000#32

theorem weight_bot : weight ⊥ ⊥ ⊥ = 0 := by
  unfold weight Ideal.div
  rw [EReal.bot_add, EReal.bot_add, if_neg (by simp), EReal.inv_bot, mul_zero, zero_mul]

/-! ## The stable sort -/

/-- Inserting a position below all those of a sorted list keeps the list sorted, ties by position. -/
theorem pairwise_insert_row {n : ℕ} (s : Fin n → EReal) (a : Fin n) (l : List (Fin n)) (ha : ∀ b ∈ l, a < b)
    (hl : l.Pairwise fun b c => s c < s b ∨ (s c = s b ∧ b < c)) :
    (insertBefore (fun b c => decide (s c < s b)) a l).Pairwise fun b c => s c < s b ∨ (s c = s b ∧ b < c) := by
  induction l with
  | nil => exact List.pairwise_singleton _ _
  | cons b l ih =>
    rw [List.pairwise_cons] at hl
    unfold insertBefore
    by_cases hb : s a < s b
    · rw [if_pos (by simpa using hb), List.pairwise_cons]
      refine ⟨fun c hc => ?_, ih (fun c hc => ha c (List.mem_cons_of_mem b hc)) hl.2⟩
      rcases List.mem_cons.1 ((perm_insertBefore _ a l).mem_iff.1 hc) with rfl | hc
      · exact .inl hb
      · exact hl.1 c hc
    · rw [if_neg (by simpa using hb), List.pairwise_cons]
      have hab : a < b := ha b List.mem_cons_self
      have hba : s b ≤ s a := not_lt.1 hb
      refine ⟨fun c hc => ?_, List.pairwise_cons.2 hl⟩
      have hac : a < c := ha c hc
      rcases List.mem_cons.1 hc with rfl | hc
      · exact hba.lt_or_eq.imp id fun h => ⟨h, hac⟩
      · rcases hl.1 c hc with h | ⟨h, -⟩
        · exact .inl (h.trans_le hba)
        · exact (h.trans_le hba).lt_or_eq.imp id fun h => ⟨h, hac⟩

theorem pairwise_sort_row {n : ℕ} (s : Fin n → EReal) (l : List (Fin n)) (hl : l.Pairwise (· < ·)) :
    (stableSort (fun b c => decide (s c < s b)) l).Pairwise fun b c => s c < s b ∨ (s c = s b ∧ b < c) := by
  induction l with
  | nil => exact List.Pairwise.nil
  | cons a l ih =>
    rw [List.pairwise_cons] at hl
    unfold stableSort
    exact pairwise_insert_row s a _ (fun b hb => hl.1 b ((perm_stableSort _ l).mem_iff.1 hb)) (ih hl.2)

/-- The sort's order between any two of its places. -/
theorem sortedFrom_row {n : ℕ} (s : Fin n → EReal) {i j : Fin n} (hij : i < j) :
    s (sortedFrom (fun b c => decide (s c < s b)) j) < s (sortedFrom (fun b c => decide (s c < s b)) i)
      ∨ (s (sortedFrom (fun b c => decide (s c < s b)) j) = s (sortedFrom (fun b c => decide (s c < s b)) i)
        ∧ sortedFrom (fun b c => decide (s c < s b)) i < sortedFrom (fun b c => decide (s c < s b)) j) := by
  have hp : ∀ a b : Fin (sortPositions n fun b c => decide (s c < s b)).length, a < b → _ :=
    List.pairwise_iff_get.mp (pairwise_sort_row s (List.finRange n) (List.pairwise_lt_finRange n))
  unfold sortedFrom
  exact hp _ _ hij

/-- The sort's first place holds the first of the greatest entries. -/
theorem sort_first (s : Fin 64 → EReal) : IsFirst s (sortedFrom (n := 64) (fun b c => decide (s c < s b)) 0) := by
  intro q hq
  obtain ⟨j, rfl⟩ := sortedFrom_surjective (fun b c => decide (s c < s b)) q
  have hj : (0 : Fin 64) < j := by
    rcases Fin.eq_zero_or_eq_succ j with rfl | ⟨k, rfl⟩
    · exact absurd rfl hq
    · exact Fin.succ_pos k
  exact sortedFrom_row s hj

/-- Its second place holds the first of the others. -/
theorem sort_second (s : Fin 64 → EReal) :
    IsSecond s (sortedFrom (n := 64) (fun b c => decide (s c < s b)) 0)
      (sortedFrom (n := 64) (fun b c => decide (s c < s b)) 1) := by
  refine ⟨fun h => absurd (sortedFrom_injective _ h) (by decide), fun q hq0 hq1 => ?_⟩
  obtain ⟨j, rfl⟩ := sortedFrom_surjective (fun b c => decide (s c < s b)) q
  have h0 : j ≠ 0 := fun h => hq0 (h ▸ rfl)
  have h1 : j ≠ 1 := fun h => hq1 (h ▸ rfl)
  refine sortedFrom_row s (i := 1) ?_
  rw [Fin.lt_def]
  have a0 : j.val ≠ 0 := fun h => h0 (Fin.ext h)
  have a1 : j.val ≠ 1 := fun h => h1 (Fin.ext h)
  show 1 < j.val
  omega

/-! ## A finite shift leaves the order -/

theorem add_lt_iff {b x y : EReal} (hb : b ≠ ⊥) (ht : b ≠ ⊤) : x + b < y + b ↔ x < y := by
  lift b to ℝ using ⟨ht, hb⟩
  constructor
  · intro h
    by_contra hh
    exact absurd h (not_lt.2 (add_le_add_left (not_lt.1 hh) _))
  · intro h
    exact EReal.add_lt_add_right_coe h b

theorem add_eq_iff {b x y : EReal} (hb : b ≠ ⊥) (ht : b ≠ ⊤) : x + b = y + b ↔ x = y := by
  constructor
  · intro h
    rcases lt_trichotomy x y with hl | he | hl
    · exact absurd h ((add_lt_iff hb ht).2 hl).ne
    · exact he
    · exact absurd h ((add_lt_iff hb ht).2 hl).ne'
  · rintro rfl; rfl

theorem IsFirst.shift {s : Fin 64 → EReal} {b : EReal} (hb : b ≠ ⊥) (ht : b ≠ ⊤) {p : Fin 64}
    (h : IsFirst (fun e => s e + b) p) : IsFirst s p := fun q hq =>
  (h q hq).imp (add_lt_iff hb ht).1 fun ⟨h1, h2⟩ => ⟨(add_eq_iff hb ht).1 h1, h2⟩

theorem IsSecond.shift {s : Fin 64 → EReal} {b : EReal} (hb : b ≠ ⊥) (ht : b ≠ ⊤) {p r : Fin 64}
    (h : IsSecond (fun e => s e + b) p r) : IsSecond s p r := ⟨h.1, fun q hq hr =>
  (h.2 q hq hr).imp (add_lt_iff hb ht).1 fun ⟨h1, h2⟩ => ⟨(add_eq_iff hb ht).1 h1, h2⟩⟩

end Cert.Proof.Moe

end
-- ==== Proof.Route.lean ====
/- The routing call's two results at the ideal instance: column by column, a row's chosen experts
   and their weights as the functions of Row. Every chosen expert's number is below sixty-four. -/
module

public import proofs.«01_k».proof.Proof.Stages
public import proofs.«01_k».proof.Proof.Row
public import Idealize.ShloMosaic.Lib.Pointwise

@[expose] public section

noncomputable section

namespace Cert.Proof.Moe

open Cert.KernelIdeal Cert.KernelIdeal.Gen Idealize.ShloMosaic Idealize.ShloMosaic.TcCoe Idealize.SL.Sem

set_option maxRecDepth 16384

/-- The word of −∞ reads as the least extended real. -/
theorem ofBits_neg_inf : Ideal.ofBits FTy.f32 0xFF800000#32 = ⊥ := by
  simp [Ideal.ofBits, Ideal.ieee]

variable (x : Vec Ideal S32x1024 .f32) (w : Vec Ideal S1024x64 .f32)

/-- A token's logits. -/
def logit (n : Fin 32) (e : Fin 64) : EReal := ∑ k : Fin 1024, x (ix2 n k) * w (ix2 k e)

/-- A token's scores. -/
def row (n : Fin 32) : Fin 64 → EReal := score (logit x w n)

theorem pay3_at (n : Fin 32) (e : Fin 64) : k0_pay3 x w (ix2 n e) = row x w n e := by
  pointwise [k0_pay3]
  simp only [ofBits_neg_inf]
  rfl

theorem pay4_at (n : Fin 32) : k0_pay4 x w (ix2 n 0) = mx (row x w n) := by
  pointwise [k0_pay4]
  simp only [pay3_at, ofBits_neg_inf]
  rfl

theorem pay5_at (n : Fin 32) : k0_pay5 x w (ix2 n 0) = firstW (row x w n) := by
  pointwise [k0_pay5]
  simp only [pay3_at, pay4_at]
  rfl

theorem pay6_at (n : Fin 32) (e : Fin 64) :
    k0_pay6 x w (ix2 n e) = knock (row x w n) (firstW (row x w n)) e := by
  pointwise [k0_pay6]
  simp only [pay3_at, pay5_at, ofBits_neg_inf]
  unfold knock
  rw [show IntOp.cmpi CmpIPredicate.eq (BitVec.ofNat 32 e.val) (firstW (row x w n))
    = BitVec.ofBool (decide (BitVec.ofNat 32 e.val = firstW (row x w n))) from rfl]
  by_cases h : BitVec.ofNat 32 e.val = firstW (row x w n) <;> simp [h, Scalar.select]

theorem pay7_at (n : Fin 32) : k0_pay7 x w (ix2 n 0) = mx (knock (row x w n) (firstW (row x w n))) := by
  pointwise [k0_pay7]
  simp only [pay6_at, ofBits_neg_inf]
  rfl

theorem pay8_at (n : Fin 32) : k0_pay8 x w (ix2 n 0) = firstW (knock (row x w n) (firstW (row x w n))) := by
  pointwise [k0_pay8]
  simp only [pay6_at, pay7_at]
  rfl

theorem pay10_at (n : Fin 32) : k0_pay10 x w (ix2 n 0)
    = weight (mx (row x w n)) (mx (row x w n)) (mx (knock (row x w n) (firstW (row x w n)))) := by
  pointwise [k0_pay10, k0_pay9]
  simp only [pay4_at, pay7_at]
  rfl

theorem pay11_at (n : Fin 32) : k0_pay11 x w (ix2 n 0)
    = weight (mx (knock (row x w n) (firstW (row x w n)))) (mx (row x w n)) (mx (knock (row x w n) (firstW (row x w n)))) := by
  pointwise [k0_pay11, k0_pay9]
  simp only [pay4_at, pay7_at]
  rfl

theorem routeIx_zero (n : Fin 32) : routeIx x w (ix2 n 0) = firstW (row x w n) := by
  rw [← pay5_at]
  unfold routeIx
  pointwise [k0_pay1]

theorem routeIx_one (n : Fin 32) :
    routeIx x w (ix2 n 1) = firstW (knock (row x w n) (firstW (row x w n))) := by
  rw [← pay8_at]
  unfold routeIx
  pointwise [k0_pay1]

theorem routeW_zero (n : Fin 32) : routeW x w (ix2 n 0)
    = weight (mx (row x w n)) (mx (row x w n)) (mx (knock (row x w n) (firstW (row x w n)))) := by
  rw [← pay10_at]
  unfold routeW
  pointwise [k0_pay2]

theorem routeW_one (n : Fin 32) : routeW x w (ix2 n 1)
    = weight (mx (knock (row x w n) (firstW (row x w n)))) (mx (row x w n)) (mx (knock (row x w n) (firstW (row x w n)))) := by
  rw [← pay11_at]
  unfold routeW
  pointwise [k0_pay2]

theorem firstW_lt (s : Fin 64 → EReal) : (firstW s).toNat < 64 := by
  obtain ⟨p, hp, -⟩ := firstW_spec s
  rw [hp, toNat_pos]
  exact p.isLt

theorem routeIx_lt (n : Fin 32) (k : Fin 2) : (routeIx x w (ix2 n k)).toNat < 64 := by
  fin_cases k
  · exact (routeIx_zero x w n).symm ▸ firstW_lt _
  · exact (routeIx_one x w n).symm ▸ firstW_lt _

/-- At the ideal instance the compaction's table names experts only. -/
theorem routed (m : (ℓ : Loc nD τ sig) → Buf (Elt Ideal) ℓ) : Routed m := by
  intro d j
  rw [V3_v2, V2_v1_0]
  obtain ⟨n, k, h⟩ : ∃ (n : Fin 32) (k : Fin 2), shapeCast S64
      (routeIx (at' (V1 m d) main_v0) (at' (V1 m d) main_arg1)) shapeCasts_S32x2_S64 j
        = routeIx (at' (V1 m d) main_v0) (at' (V1 m d) main_arg1) (ix2 n k) := by
    generalize routeIx (at' (V1 m d) main_v0) (at' (V1 m d) main_arg1) = f
    pointwise
    exact ⟨_, _, rfl⟩
  rw [h]
  exact routeIx_lt _ _ n k

end Cert.Proof.Moe

end
-- ==== Proof.Ends.lean ====
/- The two programs' frames at the ideal instance, from the run of each. -/
module

public import proofs.«01_k».proof.Defs
public import proofs.«01_k».proof.Proof.Whole
public import proofs.«01_k».proof.Proof.Route
public import proofs.«01_k».proof.Proof.Gen.ReferenceIdeal.Run
public import proofs.«01_k».proof.Proof.Gen.Pre_bias_finite
public import Idealize.ShloMosaic.Adequacy
public import Idealize.ShloMosaic.Init

@[expose] public section

noncomputable section

namespace Cert.Proof.Moe

open Idealize.ShloMosaic Idealize.ShloMosaic.TcCoe Idealize.SL.Sem

section Kernel

open Cert.KernelIdeal Cert.KernelIdeal.Gen

/-- Every buffer the launch leaves, the arguments among them unchanged. -/
theorem kernel_args (m : (ℓ : Loc nD τ sig) → Buf (Elt Ideal) ℓ) (ρ : Dev nD → PrngReg)
    (r : PUnit × MemSt nD τ sig (Elt Ideal)) (hr : QC m (routed m) r) (d : Dev nD) (a : Ref sig .tc)
    (hs : a.isScoped = false)
    (ha : a ∉ [main_v0, main_v1_0, main_v1_1, main_v2, main_v3_0, main_v3_1, main_v4, main_v5, main_v6, main_v7])
    (h8 : a ≠ main_v8) (h9 : a ≠ main_v9) :
    r.2.mem ((d.tc : Thread nD τ).loc a) = m ((d.tc : Thread nD τ).loc a) :=
  (hr.1 d ⟨a, hs⟩).trans (V10_arg m (routed m) d a ha h8 h9)

/-- The kernel's run at the ideal instance: its result, its arguments unchanged, every counter at zero. -/
theorem kernel_run (m : (ℓ : Loc nD τ sig) → Buf (Elt Ideal) ℓ) (ρ : Dev nD → PrngReg) :
    θ_run (Cert.KernelIdeal.defs (F := Ideal)) (Cert.KernelIdeal.threads (F := Ideal)) ⟨m, fun _ => 0, ρ⟩ fun r =>
      (∀ c : Dev nD,
        r.2.mem ((c.tc : Thread nD τ).loc main_v9) = at' (V10 m (routed m) c) main_v9
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
      ∧ r.2.sem = fun _ => 0 :=
  (θ_run Cert.KernelIdeal.defs _ _).mono (fun r hr => ⟨fun c =>
    have arg := kernel_args m ρ r hr c
    ⟨hr.1 c ⟨main_v9, rfl⟩,
      arg main_arg0 rfl (by decide) (by decide) (by decide), arg main_arg1 rfl (by decide) (by decide) (by decide),
      arg main_arg2 rfl (by decide) (by decide) (by decide), arg main_arg3 rfl (by decide) (by decide) (by decide),
      arg main_arg4 rfl (by decide) (by decide) (by decide), arg main_arg5 rfl (by decide) (by decide) (by decide),
      arg main_arg6 rfl (by decide) (by decide) (by decide), arg main_arg7 rfl (by decide) (by decide) (by decide),
      arg main_arg8 rfl (by decide) (by decide) (by decide)⟩, hr.2⟩)
    (run_main m (routed m) ρ)

end Kernel

theorem frame_kernel : Cert.quiescent_KernelIdeal := fun m ρ _ =>
  (θ_run Cert.KernelIdeal.defs _ _).mono (fun _ h => ⟨fun c => (h.1 c).2, h.2⟩) (kernel_run m ρ)

theorem frame_kernel_pre : Cert.quiescent_KernelIdeal_pre_bias_finite := fun m ρ _ =>
  (θ_run Cert.KernelIdeal.defs _ _).mono (fun _ h => ⟨fun c => (h.1 c).2, h.2⟩) (kernel_run m ρ)

theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem frame_reference_pre : Cert.quiescent_ReferenceIdeal_pre_bias_finite := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

end Cert.Proof.Moe

end
-- ==== Proof.Experts.lean ====
/- The expert call's accumulator at the ideal instance, entry by entry: the shared experts' part and,
   for each expert named, that expert's part times the token's coefficient for it. -/
module

public import proofs.«01_k».proof.Proof.Route

@[expose] public section

noncomputable section

namespace Cert.Proof.Moe

open Cert.KernelIdeal Cert.KernelIdeal.Gen Idealize.ShloMosaic Idealize.ShloMosaic.TcCoe Idealize.SL.Sem

set_option maxRecDepth 16384

/-! ## The bodies' values -/

/-- One entry of a gated two-layer network: the gate, its logistic and the second factor, summed
    against a column of the last matrix. -/
def gated {M : ℕ} (x : Fin 1024 → EReal) (g u : Fin 1024 → Fin M → EReal) (dn : Fin M → EReal) : EReal :=
  ∑ i, ((∑ k, x k * g k i) * Ideal.logistic (∑ k, x k * g k i) * ∑ k, x k * u k i) * dn i

/-- A token's coefficient for the expert a word names. -/
def coef (t : Fin 2 → BitVec 32) (w : Fin 2 → EReal) (e : BitVec 32) : EReal := ∑ k, if t k = e then w k else 0

theorem expert_at (e : BitVec 32) (x : Vec Ideal S32x1024 .f32) (g u : Vec Ideal S1x1024x512 .f32)
    (dn : Vec Ideal S1x512x1024 .f32) (tki : Vec Ideal S32x2 .i32) (tkw : Vec Ideal S32x2 .f32)
    (p : Vec Ideal S32x1024 .f32) (n : Fin 32) (h : Fin 1024) :
    (k3_pay2 (F := Ideal) e x g u dn tki tkw p (ix2 n h) : EReal)
      = p (ix2 n h) + gated (fun k => x (ix2 n k)) (fun k i => g (ix3 0 k i)) (fun k i => u (ix3 0 k i)) (fun i => dn (ix3 0 i h))
          * coef (fun k => tki (ix2 n k)) (fun k => tkw (ix2 n k)) e := by
  pointwise [k3_pay2]
  unfold gated coef
  refine congrArg (p (ix2 n h) + ·) (congrArg (_ * ·) (Finset.sum_congr rfl fun k _ => ?_))
  rw [show IntOp.cmpi CmpIPredicate.eq (tki (ix2 n k)) e = BitVec.ofBool (decide (tki (ix2 n k) = e)) from rfl]
  by_cases he : tki (ix2 n k) = e <;> simp [he, Scalar.select]

theorem shared_at (x : Vec Ideal S32x1024 .f32) (g u : Vec Ideal S1024x2048 .f32) (dn : Vec Ideal S2048x1024 .f32)
    (n : Fin 32) (h : Fin 1024) :
    (k2_pay1 (F := Ideal) x g u dn (ix2 n h) : EReal)
      = gated (fun k => x (ix2 n k)) (fun k i => g (ix2 k i)) (fun k i => u (ix2 k i)) (fun i => dn (ix2 i h)) := by
  pointwise [k2_pay1]
  rfl

theorem copy_at (s : Vec Ideal S32x1024 .f32) (n : Fin 32) (h : Fin 1024) : k3_pay1 s (ix2 n h) = s (ix2 n h) := by
  pointwise [k3_pay1]

/-- A point computes exactly when its number is below the count. -/
theorem cond2_iff (i c : ℕ) (hi : i < 64) (hc : c ≤ 64) : k3_cond2 (crd i) (BitVec.ofNat 32 c) = 1#1 ↔ i < c := by
  have hs : (BitVec.ofNat 32 (i % 64)).slt (BitVec.ofNat 32 c) = decide (i < c) := by
    unfold BitVec.slt
    rw [BitVec.toInt_eq_toNat_cond, BitVec.toInt_eq_toNat_cond, BitVec.toNat_ofNat, BitVec.toNat_ofNat,
      Nat.mod_eq_of_lt (show i % 64 < 2 ^ 32 by omega), Nat.mod_eq_of_lt (show c < 2 ^ 32 by omega),
      if_pos (by omega), if_pos (by omega), Nat.mod_eq_of_lt hi]
    exact decide_eq_decide.2 Int.ofNat_lt
  show IntOp.cmpi .ne (BitVec.setWidth 32 (BitVec.ofBool ((BitVec.ofNat 32 (i % 64)).slt (BitVec.ofNat 32 c)))) 0#32 = 1#1 ↔ _
  rw [hs]
  by_cases h : i < c
  · simp only [h, decide_true, iff_true]; decide
  · simp only [h, decide_false, iff_false]; decide

/-! ## The accumulator -/

variable (a : (pcfg3 (F := Ideal)).Adm) (W : Valuation τ sig (Elt Ideal))

/-- The shared experts' part, as the expert call finds it. -/
abbrev sharedOf (W : Valuation τ sig (Elt Ideal)) : S32x1024.Idx → EReal := at' W main_v5

/-- Entry `(n, h)` of an expert's part. -/
def part (W : Valuation τ sig (Elt Ideal)) (n : Fin 32) (h : Fin 1024) (e : Fin 64) : EReal :=
  gated (fun k => (at' W main_v0 : S32x1024.Idx → EReal) (ix2 n k))
    (fun k i => (at' W main_arg3 : S64x1024x512.Idx → EReal) (ix3 e k i))
    (fun k i => (at' W main_arg4 : S64x1024x512.Idx → EReal) (ix3 e k i))
    (fun i => (at' W main_arg5 : S64x512x1024.Idx → EReal) (ix3 e i h))

/-- The token's coefficient for the expert word `e`. -/
def coefOf (W : Valuation τ sig (Elt Ideal)) (n : Fin 32) (e : BitVec 32) : EReal :=
  coef (fun k => (at' W main_v1_0 : S32x2.Idx → BitVec 32) (ix2 n k)) (fun k => (at' W main_v1_1 : S32x2.Idx → EReal) (ix2 n k)) e

theorem slabU_at (f : S64x1024x512.Idx → EReal) (e : Fin 64) (k : Fin 1024) (i : Fin 512) :
    slabU (F := Ideal) f e (ix3 0 k i) = f (ix3 e k i) :=
  congrArg f (funext fun d => match d with | 0 => rfl | 1 => rfl | 2 => rfl)

theorem slabD_at (f : S64x512x1024.Idx → EReal) (e : Fin 64) (i : Fin 512) (h : Fin 1024) :
    slabD (F := Ideal) f e (ix3 0 i h) = f (ix3 e i h) :=
  congrArg f (funext fun d => match d with | 0 => rfl | 1 => rfl | 2 => rfl)

theorem step_at (i c : ℕ) (hi : i < 64) (hc : c ≤ 64) (hcnt : cnt (F := Ideal) (cntT a) = BitVec.ofNat 32 c)
    (p : S32x1024.Idx → Elt Ideal .f32) (n : Fin 32) (h : Fin 1024) :
    (stepOf (crd i) (idsT a) (cntT a) (at' W main_v0) (slabU (at' W main_arg3) (eAt a (crd i))) (slabU (at' W main_arg4) (eAt a (crd i)))
      (slabD (at' W main_arg5) (eAt a (crd i))) (at' W main_v1_0) (at' W main_v1_1) (at' W main_v5) p (ix2 n h) : EReal)
      = (if k3_cond1 (crd i) = 1#1 then sharedOf W (ix2 n h) else p (ix2 n h))
        + if i < c then part W n h (eAt a (crd i)) * coefOf W n (wd (F := Ideal) (idsT a) (crd i)) else 0 := by
  have hp : ((if k3_cond1 (crd i) = 1#1 then k3_pay1 (at' W main_v5) else p : S32x1024.Idx → Elt Ideal .f32) (ix2 n h) : EReal)
      = if k3_cond1 (crd i) = 1#1 then sharedOf W (ix2 n h) else p (ix2 n h) := by
    split
    · exact copy_at _ n h
    · rfl
  unfold stepOf
  rw [hcnt]
  by_cases hic : i < c
  · rw [if_pos ((cond2_iff i c hi hc).2 hic), if_pos hic, expert_at]
    rw [hp]
    simp only [slabU_at, slabD_at]
    rfl
  · rw [if_neg fun hh => hic ((cond2_iff i c hi hc).1 hh), if_neg hic, add_zero]
    exact hp

theorem acc_at (c : ℕ) (hc : c ≤ 64) (hcnt : cnt (F := Ideal) (cntT a) = BitVec.ofNat 32 c) (n : Fin 32) (h : Fin 1024) (i : ℕ) (hi : i < 64) :
    (accOf a W i (ix2 n h) : EReal) = sharedOf W (ix2 n h)
      + ∑ j ∈ Finset.range (i + 1), if j < c then part W n h (eAt a (crd j)) * coefOf W n (wd (F := Ideal) (idsT a) (crd j)) else 0 := by
  induction i with
  | zero =>
    unfold accOf
    rw [step_at a W 0 c hi hc hcnt, if_pos cond1_zero, Finset.sum_range_one]
  | succ i ih =>
    unfold accOf
    rw [step_at a W (i + 1) c hi hc hcnt, if_neg (cond1_of_pos (i + 1) (Nat.succ_ne_zero i) hi), ih (by omega),
      Finset.sum_range_succ _ (i + 1), add_assoc]

/-! ## The experts named -/

/-- A sum along the list of the numbers with a property is the sum over them. -/
theorem sum_pick (P : ℕ → Prop) [DecidablePred P] (f : ℕ → EReal) (n : ℕ) :
    ∑ j ∈ Finset.range (Nat.count P n), f (pick P j) = ∑ e ∈ Finset.range n, if P e then f e else 0 := by
  induction n with
  | zero => simp
  | succ n ih =>
    rw [Finset.sum_range_succ _ n, Nat.count_succ, ← ih]
    by_cases hn : P n
    · rw [if_pos hn, if_pos hn, Finset.sum_range_succ, pick_count hn]
    · rw [if_neg hn, if_neg hn, add_zero, add_zero]

theorem count_le (P : ℕ → Prop) [DecidablePred P] (n : ℕ) : Nat.count P n ≤ n := by
  induction n with
  | zero => simp
  | succ n ih => rw [Nat.count_succ]; split <;> omega

/-- The accumulator at the end, over all the experts: the ones no token names have coefficient zero. -/
theorem acc_final (t : S64.Idx → BitVec 32) (ht : ∀ j, (t j).toNat < 64) (hids : idsT a = idsOf t)
    (hcnt : cnt (F := Ideal) (cntT a) = BitVec.ofNat 32 (Nat.count (Named t 64) 64))
    (n : Fin 32) (h : Fin 1024) (hz : ∀ e : Fin 64, ¬ Named t 64 e.val → coefOf W n (BitVec.ofNat 32 e.val) = 0) :
    (accOf a W 63 (ix2 n h) : EReal) = sharedOf W (ix2 n h)
      + ∑ e : Fin 64, part W n h e * coefOf W n (BitVec.ofNat 32 e.val) := by
  have hc := count_le (Named t 64) 64
  rw [acc_at a W _ hc hcnt n h 63 (by omega)]
  refine congrArg (_ + ·) ?_
  have hcut : ∀ (c : ℕ) (f : ℕ → EReal), c ≤ 64 → (∑ j ∈ Finset.range 64, if j < c then f j else 0) = ∑ j ∈ Finset.range c, f j := by
    intro c f hc
    rw [← Finset.sum_filter]
    refine Finset.sum_congr (Finset.ext fun j => ?_) fun _ _ => rfl
    simp only [Finset.mem_filter, Finset.mem_range]
    omega
  have hword : ∀ j, j < Nat.count (Named t 64) 64 → wd (F := Ideal) (idsT a) (crd j) = BitVec.ofNat 32 (pick (Named t 64) j) := by
    intro j hj
    rw [hids]
    show (if j % 64 < Nat.count (Named t 64) 64 then BitVec.ofNat 32 (pick (Named t 64) (j % 64)) else _) = _
    rw [Nat.mod_eq_of_lt (by omega), if_pos hj]
  have hpick : ∀ j, pick (Named t 64) j < 64 := pick_lt (Named t 64) 64 (named_lt t ht) (by omega)
  rw [hcut _ _ hc]
  have hstep : ∀ j ∈ Finset.range (Nat.count (Named t 64) 64),
      part W n h (eAt a (crd j)) * coefOf W n (wd (F := Ideal) (idsT a) (crd j))
        = (fun e : ℕ => part W n h (Fin.ofNat 64 e) * coefOf W n (BitVec.ofNat 32 e)) (pick (Named t 64) j) := by
    intro j hj
    have hw := hword j (Finset.mem_range.1 hj)
    have he : eAt a (crd j) = Fin.ofNat 64 (pick (Named t 64) j) := by
      apply Fin.ext
      show (wd (F := Ideal) (idsT a) (crd j)).toNat = pick (Named t 64) j % 64
      have := hpick j
      rw [hw, BitVec.toNat_ofNat, Nat.mod_eq_of_lt (by omega), Nat.mod_eq_of_lt this]
    rw [he, hw]
  refine (Finset.sum_congr rfl hstep).trans ((sum_pick (Named t 64)
    (fun e : ℕ => part W n h (Fin.ofNat 64 e) * coefOf W n (BitVec.ofNat 32 e)) 64).trans ?_)
  rw [Finset.sum_range]
  refine Finset.sum_congr rfl fun e _ => ?_
  have he : Fin.ofNat 64 e.val = e := Fin.ext (Nat.mod_eq_of_lt e.isLt)
  by_cases hn : Named t 64 e.val
  · rw [if_pos hn, he]
  · rw [if_neg hn, hz e hn, mul_zero]

/-! ## The sum over a token's two experts -/

theorem coef_sum (Y : Fin 64 → EReal) (t : Fin 2 → BitVec 32) (w : Fin 2 → EReal) (p r : Fin 64) (hpr : r ≠ p)
    (h0 : t 0 = BitVec.ofNat 32 p.val) (h1 : t 1 = BitVec.ofNat 32 r.val) :
    ∑ e : Fin 64, Y e * coef t w (BitVec.ofNat 32 e.val) = Y p * w 0 + Y r * w 1 := by
  have hterm : ∀ e : Fin 64, Y e * coef t w (BitVec.ofNat 32 e.val)
      = (if e = p then Y e * w 0 else 0) + if e = r then Y e * w 1 else 0 := by
    intro e
    have hp : t 0 = BitVec.ofNat 32 e.val ↔ e = p :=
      ⟨fun hh => (word_inj (h0.symm.trans hh)).symm, fun hh => hh ▸ h0⟩
    have hr : t 1 = BitVec.ofNat 32 e.val ↔ e = r :=
      ⟨fun hh => (word_inj (h1.symm.trans hh)).symm, fun hh => hh ▸ h1⟩
    unfold coef
    rw [Fin.sum_univ_two]
    simp only [hp, hr]
    by_cases h1 : e = p
    · have h2 : e ≠ r := fun hh => hpr (hh.symm.trans h1)
      simp [h1, h1 ▸ h2]
    · by_cases h2 : e = r <;> simp [h1, h2]
      simp [h2 ▸ h1]
  simp only [hterm, Finset.sum_add_distrib, Finset.sum_ite_eq', Finset.mem_univ, if_true]

theorem coef_sum_zero (Y : Fin 64 → EReal) (t : Fin 2 → BitVec 32) (w : Fin 2 → EReal) (h0 : w 0 = 0) (h1 : w 1 = 0) :
    ∑ e : Fin 64, Y e * coef t w (BitVec.ofNat 32 e.val) = 0 := by
  refine Finset.sum_eq_zero fun e _ => ?_
  unfold coef
  rw [Fin.sum_univ_two, h0, h1]
  simp

end Cert.Proof.Moe

end
-- ==== Proof.Result.lean ====
/- What an entry of the result is, as a property both programs' entries have, and the kernel's entry. -/
module

public import proofs.«01_k».proof.Proof.Experts

@[expose] public section

noncomputable section

namespace Cert.Proof.Moe

open Idealize.ShloMosaic Idealize.ShloMosaic.TcCoe Idealize.SL.Sem

set_option maxRecDepth 16384

/-- An entry of the result, from its token's scores `s`, the experts' entries `Y` and the shared entry `sh`:
    the experts of the two best scores are weighted and added. Where the scores carry no number, nothing is added. -/
def Entry (s Y : Fin 64 → EReal) (sh v : EReal) : Prop :=
  (∀ p r, (∀ e, s e ≠ ⊥) → IsFirst s p → IsSecond s p r →
    v = sh + (Y p * weight (s p) (s p) (s r) + Y r * weight (s r) (s p) (s r)))
  ∧ ((∀ e, s e = ⊥) → v = sh)

/-- There is one such entry. -/
theorem Entry.unique {l Y : Fin 64 → EReal} {sh v v' : EReal} (h : Entry (score l) Y sh v) (h' : Entry (score l) Y sh v') : v = v' := by
  rcases score_cases l with hb | hg
  · exact (h.2 hb).trans (h'.2 hb).symm
  · obtain ⟨p, -, hp, -⟩ := firstW_spec (score l)
    obtain ⟨r, -, hr, -⟩ := secondW_spec (score l) hg p
    exact (h.1 p r hg hp hr).trans (h'.1 p r hg hp hr).symm

open Cert.KernelIdeal Cert.KernelIdeal.Gen

variable (m : (ℓ : Loc nD τ sig) → Buf (Elt Ideal) ℓ) (d : Dev nD)

/-- The arguments, by index. -/
def hidden (n : Fin 32) (k : Fin 1024) : EReal := (at' (V0 m d) main_arg0 : S32x1x1024.Idx → EReal) (ix3 n 0 k)
def router (k : Fin 1024) (e : Fin 64) : EReal := (at' (V0 m d) main_arg1 : S1024x64.Idx → EReal) (ix2 k e)
def gateW (e : Fin 64) (k : Fin 1024) (i : Fin 512) : EReal := (at' (V0 m d) main_arg3 : S64x1024x512.Idx → EReal) (ix3 e k i)
def upW (e : Fin 64) (k : Fin 1024) (i : Fin 512) : EReal := (at' (V0 m d) main_arg4 : S64x1024x512.Idx → EReal) (ix3 e k i)
def downW (e : Fin 64) (i : Fin 512) (h : Fin 1024) : EReal := (at' (V0 m d) main_arg5 : S64x512x1024.Idx → EReal) (ix3 e i h)
def gateS (k : Fin 1024) (i : Fin 2048) : EReal := (at' (V0 m d) main_arg6 : S1024x2048.Idx → EReal) (ix2 k i)
def upS (k : Fin 1024) (i : Fin 2048) : EReal := (at' (V0 m d) main_arg7 : S1024x2048.Idx → EReal) (ix2 k i)
def downS (i : Fin 2048) (h : Fin 1024) : EReal := (at' (V0 m d) main_arg8 : S2048x1024.Idx → EReal) (ix2 i h)

/-- A token's logits, an expert's entry, the shared entry. -/
def logits (n : Fin 32) (e : Fin 64) : EReal := ∑ k, hidden m d n k * router m d k e
def expertE (n : Fin 32) (h : Fin 1024) (e : Fin 64) : EReal :=
  gated (hidden m d n) (gateW m d e) (upW m d e) fun i => downW m d e i h
def sharedE (n : Fin 32) (h : Fin 1024) : EReal := gated (hidden m d n) (gateS m d) (upS m d) fun i => downS m d i h

theorem V1_hidden (n : Fin 32) (k : Fin 1024) : (at' (V1 m d) main_v0 : S32x1024.Idx → EReal) (ix2 n k) = hidden m d n k := by
  rw [V1_v0]
  unfold hidden
  generalize at' (V0 m d) main_arg0 = f
  pointwise

theorem V8_hidden : at' (V8 m d) main_v0 = at' (V1 m d) main_v0 := by
  rw [V8_off m d _ (by decide), V7_off m d _ (by decide), V6_off m d _ (by decide), V5_off m d _ (by decide),
    V4_off m d _ (by decide) (by decide), V3_off m d _ (by decide), V2_off m d _ (by decide) (by decide)]

theorem V5_hidden : at' (V5 m d) main_v0 = at' (V1 m d) main_v0 := by
  rw [V5_off m d _ (by decide), V4_off m d _ (by decide) (by decide), V3_off m d _ (by decide), V2_off m d _ (by decide) (by decide)]

theorem V5_arg (r : Ref sig .tc) (h : r ∉ [main_v0, main_v1_0, main_v1_1, main_v2, main_v3_0, main_v3_1, main_v4, main_v5, main_v6, main_v7]) :
    at' (V5 m d) r = at' (V0 m d) r := by
  simp only [List.mem_cons, List.not_mem_nil, not_or] at h
  obtain ⟨h0, h1, h2, h3, h4, h5, h6, h7, h8, h9, -⟩ := h
  rw [V5_off m d r h6, V4_off m d r h4 h5, V3_off m d r h3, V2_off m d r h1 h2, V1_off m d r h0]

theorem V8_ix : at' (V8 m d) main_v1_0 = routeIx (at' (V1 m d) main_v0) (at' (V0 m d) main_arg1) := by
  rw [V8_off m d _ (by decide), V7_off m d _ (by decide), V6_off m d _ (by decide), V5_off m d _ (by decide),
    V4_off m d _ (by decide) (by decide), V3_off m d _ (by decide), V2_v1_0, V1_off m d main_arg1 (by decide)]

theorem V8_w : at' (V8 m d) main_v1_1 = routeW (at' (V1 m d) main_v0) (at' (V0 m d) main_arg1) := by
  rw [V8_off m d _ (by decide), V7_off m d _ (by decide), V6_off m d _ (by decide), V5_off m d _ (by decide),
    V4_off m d _ (by decide) (by decide), V3_off m d _ (by decide), V2_v1_1, V1_off m d main_arg1 (by decide)]

theorem row_eq (n : Fin 32) : row (at' (V1 m d) main_v0) (at' (V0 m d) main_arg1) n = score (logits m d n) := by
  unfold row
  refine congrArg score (funext fun e => Finset.sum_congr rfl fun k _ => ?_)
  rw [V1_hidden]
  rfl

theorem V8_shared (n : Fin 32) (h : Fin 1024) : sharedOf (V8 m d) (ix2 n h) = sharedE m d n h := by
  unfold sharedOf
  rw [V8_off m d _ (by decide), V7_off m d _ (by decide), V6_v5, V5_hidden, V5_arg m d main_arg6 (by decide),
    V5_arg m d main_arg7 (by decide), V5_arg m d main_arg8 (by decide), shared_at]
  exact congrArg (fun x => gated x (gateS m d) (upS m d) fun i => downS m d i h) (funext (V1_hidden m d n))

theorem V8_part (n : Fin 32) (h : Fin 1024) (e : Fin 64) : part (V8 m d) n h e = expertE m d n h e := by
  unfold part
  rw [V8_hidden, V8_arg m d main_arg3 (by decide), V8_arg m d main_arg4 (by decide), V8_arg m d main_arg5 (by decide)]
  exact congrArg (fun x => gated x (gateW m d e) (upW m d e) fun i => downW m d e i h) (funext (V1_hidden m d n))

/-- An expert some token names is in the list. -/
theorem named_of (n : Fin 32) (k : Fin 2) (e : Fin 64)
    (h : (routeIx (at' (V1 m d) main_v0) (at' (V0 m d) main_arg1) : S32x2.Idx → BitVec 32) (ix2 n k) = BitVec.ofNat 32 e.val) :
    Named (tk m d) 64 e.val := by
  refine ⟨2 * n.val + k.val, by omega, ?_⟩
  have hlt : 2 * n.val + k.val < 64 := by omega
  unfold entry
  rw [dif_pos hlt]
  have hr : tk m d (Shape.ofLane (d := ![64]) ⟨2 * n.val + k.val, hlt⟩) = routeIx (at' (V1 m d) main_v0) (at' (V0 m d) main_arg1) (ix2 n k) := by
    rw [V3_v2, V2_v1_0, V1_off m d main_arg1 (by decide)]
    generalize routeIx (at' (V1 m d) main_v0) (at' (V0 m d) main_arg1) = f
    have hi : Shape.ofLane (d := ![64]) ⟨2 * n.val + k.val, hlt⟩ = ix1 ⟨2 * n.val + k.val, hlt⟩ := by
      funext i; fin_cases i; rfl
    rw [hi]
    pointwise
  rw [hr, h, toNat_pos]

/-- The kernel's entry. -/
theorem kernel_entry (n : Fin 32) (h : Fin 1024) :
    Entry (score (logits m d n)) (expertE m d n h) (sharedE m d n h)
      ((at' (V10 m (routed m) d) main_v9 : S32x1x1024.Idx → EReal) (ix3 n 0 h)) := by
  have hv : (at' (V10 m (routed m) d) main_v9 : S32x1x1024.Idx → EReal) (ix3 n 0 h)
      = sharedE m d n h + ∑ e : Fin 64, expertE m d n h e * coefOf (V8 m d) n (BitVec.ofNat 32 e.val) := by
    rw [V10_v9]
    have hz : ∀ e : Fin 64, ¬ Named (tk m d) 64 e.val → coefOf (V8 m d) n (BitVec.ofNat 32 e.val) = 0 := by
      intro e he
      unfold coefOf coef
      rw [V8_ix]
      exact Finset.sum_eq_zero fun k _ => if_neg fun hk => he (named_of m d n k e hk)
    have hd := dev_zero d
    subst hd
    have hf := acc_final (tab m (routed m)) (V8 m 0) (tk m 0) (routed m 0) (pfOf_ids m 0) (V8_cnt m 0) n h hz
    rw [V8_shared] at hf
    simp only [V8_part] at hf
    rw [← hf]
    generalize accOf (tab m (routed m)) (V8 m 0) 63 = f
    pointwise
  have hs := row_eq m d n
  have h0 := routeIx_zero (at' (V1 m d) main_v0) (at' (V0 m d) main_arg1) n
  have h1 := routeIx_one (at' (V1 m d) main_v0) (at' (V0 m d) main_arg1) n
  have w0 := routeW_zero (at' (V1 m d) main_v0) (at' (V0 m d) main_arg1) n
  have w1 := routeW_one (at' (V1 m d) main_v0) (at' (V0 m d) main_arg1) n
  rw [hs] at h0 h1 w0 w1
  obtain ⟨p, hp, hfirst, hmx⟩ := firstW_spec (score (logits m d n))
  rw [hv]
  unfold coefOf
  rw [V8_ix, V8_w]
  constructor
  · intro p' r' hg hp' hr'
    obtain rfl := hp'.unique hfirst
    obtain ⟨r, hrw, hsecond, hmx'⟩ := secondW_spec (score (logits m d n)) hg p'
    obtain rfl := hr'.unique hsecond
    rw [hp] at h0 h1 w0 w1
    rw [hrw] at h1
    rw [← hmx, ← hmx'] at w0 w1
    rw [coef_sum _ _ _ p' r' hr'.1 h0 h1, w0, w1]
  · intro hb
    have hm : mx (score (logits m d n)) = ⊥ := hmx ▸ hb p
    have hk : mx (knock (score (logits m d n)) (firstW (score (logits m d n)))) = ⊥ := by
      refine (mx_eq _ p fun q => ?_).trans ?_
      · unfold knock; split <;> split <;> simp [hb]
      · unfold knock; split <;> simp [hb]
    rw [hm, hk, weight_bot] at w0 w1
    rw [coef_sum_zero _ _ _ w0 w1, add_zero]

end Cert.Proof.Moe

end
-- ==== Proof.Reference.lean ====
/- The reference's result at the ideal instance, entry by entry: its named values read at an index. -/
module

public import proofs.«01_k».proof.Proof.Result
public import proofs.«01_k».proof.Proof.Gen.ReferenceIdeal.Run
public import Idealize.ShloMosaic.Lib.Pointwise
public import Idealize.ShloMosaic.Lib.Tactic.CleanTypes

@[expose] public section

noncomputable section

namespace Cert.Proof.Moe

open Idealize.ShloMosaic Idealize.ShloMosaic.TcCoe Idealize.SL.Sem
open Cert.ReferenceIdeal Cert.ReferenceIdeal.Gen Cert.ReferenceIdeal.Value

set_option maxRecDepth 16384

/-! ## Reading along an index array -/

theorem clamp_pos (e : Fin 64) : min (BitVec.ofNat 32 e.val).toInt.toNat 63 = e.val := by
  rw [toInt_pos]
  omega

/-- The scores at the positions chosen. -/
theorem gather_scores {α : Type} (x : S32x1x64.Idx → α) (idx : IVec S32x2x1 32) (n : Fin 32) (k : Fin 2) (p : Fin 64)
    (h : idx (ix3 n k 0) = BitVec.ofNat 32 p.val) :
    Host.gather gather_S32x1x64_S32x2x1_S32x1x2_1_2_0_0_2_2_111 x idx (ix3 n 0 k) = x (ix3 n 0 p) := by
  refine congrArg x (funext fun a => Fin.ext ?_)
  match a with
  | 0 => exact (Nat.zero_add _)
  | 1 => rfl
  | 2 =>
    show min (idx (gather_S32x1x64_S32x2x1_S32x1x2_1_2_0_0_2_2_111.siIdx (ix3 n 0 k) ⟨0, by decide⟩)).toInt.toNat 63 = p.val
    have hi : gather_S32x1x64_S32x2x1_S32x1x2_1_2_0_0_2_2_111.siIdx (ix3 n 0 k) ⟨0, by decide⟩ = ix3 n k 0 := by
      funext b
      match b with
      | 0 => rfl
      | 1 => rfl
      | 2 => rfl
    rw [hi, h, clamp_pos]

/-- An expert's first matrices, per token. -/
theorem gather_in {α : Type} (x : S64x1024x512.Idx → α) (idx : IVec S32x1 32) (n : Fin 32) (k : Fin 1024) (i : Fin 512) (p : Fin 64)
    (h : idx (ix2 n 0) = BitVec.ofNat 32 p.val) :
    Host.gather gather_S64x1024x512_S32x1_S32x1024x512_12_0_n_n_0_1_11024512 x idx (ix3 n k i) = x (ix3 p k i) := by
  refine congrArg x (funext fun a => Fin.ext ?_)
  match a with
  | 0 =>
    show min (idx (gather_S64x1024x512_S32x1_S32x1024x512_12_0_n_n_0_1_11024512.siIdx (ix3 n k i) ⟨0, by decide⟩)).toInt.toNat 63 = p.val
    have hi : gather_S64x1024x512_S32x1_S32x1024x512_12_0_n_n_0_1_11024512.siIdx (ix3 n k i) ⟨0, by decide⟩ = ix2 n 0 := by
      funext b
      match b with
      | 0 => rfl
      | 1 => rfl
    rw [hi, h, clamp_pos]
  | 1 => exact (Nat.zero_add _)
  | 2 => exact (Nat.zero_add _)

/-- An expert's last matrix, per token. -/
theorem gather_out {α : Type} (x : S64x512x1024.Idx → α) (idx : IVec S32x1 32) (n : Fin 32) (i : Fin 512) (k : Fin 1024) (p : Fin 64)
    (h : idx (ix2 n 0) = BitVec.ofNat 32 p.val) :
    Host.gather gather_S64x512x1024_S32x1_S32x512x1024_12_0_n_n_0_1_15121024 x idx (ix3 n i k) = x (ix3 p i k) := by
  refine congrArg x (funext fun a => Fin.ext ?_)
  match a with
  | 0 =>
    show min (idx (gather_S64x512x1024_S32x1_S32x512x1024_12_0_n_n_0_1_15121024.siIdx (ix3 n i k) ⟨0, by decide⟩)).toInt.toNat 63 = p.val
    have hi : gather_S64x512x1024_S32x1_S32x512x1024_12_0_n_n_0_1_15121024.siIdx (ix3 n i k) ⟨0, by decide⟩ = ix2 n 0 := by
      funext b
      match b with
      | 0 => rfl
      | 1 => rfl
    rw [hi, h, clamp_pos]
  | 1 => exact (Nat.zero_add _)
  | 2 => exact (Nat.zero_add _)

/-- An index below the extent is not wrapped. -/
theorem wrap_pos (p : Fin 64) :
    Scalar.select (IntOp.cmpi CmpIPredicate.slt (BitVec.ofNat 32 p.val) 0#32) (IntOp.addi (BitVec.ofNat 32 p.val) 64#32) (BitVec.ofNat 32 p.val)
      = BitVec.ofNat 32 p.val := by
  revert p; decide

theorem inside_pos (p : Fin 64) :
    IntOp.andi (IntOp.cmpi CmpIPredicate.sge (BitVec.ofNat 32 p.val) 0#32) (IntOp.cmpi CmpIPredicate.sle (BitVec.ofNat 32 p.val) 63#32) = 1#1 := by
  revert p; decide

/-! ## The routing -/

variable (V : Valuation τ sig (Elt Ideal))

/-- The arguments, by index. -/
def rHidden (n : Fin 32) (k : Fin 1024) : EReal := (V (Proc.devRef .tc main_arg0) : S32x1x1024.Idx → EReal) (ix3 n 0 k)
def rRouter (k : Fin 1024) (e : Fin 64) : EReal := (V (Proc.devRef .tc main_arg1) : S1024x64.Idx → EReal) (ix2 k e)
def rBias : EReal := (V (Proc.devRef .tc main_arg2) : S_.Idx → EReal) ix0
def rGate (e : Fin 64) (k : Fin 1024) (i : Fin 512) : EReal := (V (Proc.devRef .tc main_arg3) : S64x1024x512.Idx → EReal) (ix3 e k i)
def rUp (e : Fin 64) (k : Fin 1024) (i : Fin 512) : EReal := (V (Proc.devRef .tc main_arg4) : S64x1024x512.Idx → EReal) (ix3 e k i)
def rDown (e : Fin 64) (i : Fin 512) (h : Fin 1024) : EReal := (V (Proc.devRef .tc main_arg5) : S64x512x1024.Idx → EReal) (ix3 e i h)
def rGateS (k : Fin 1024) (i : Fin 2048) : EReal := (V (Proc.devRef .tc main_arg6) : S1024x2048.Idx → EReal) (ix2 k i)
def rUpS (k : Fin 1024) (i : Fin 2048) : EReal := (V (Proc.devRef .tc main_arg7) : S1024x2048.Idx → EReal) (ix2 k i)
def rDownS (i : Fin 2048) (h : Fin 1024) : EReal := (V (Proc.devRef .tc main_arg8) : S2048x1024.Idx → EReal) (ix2 i h)

/-- A token's logits and scores. -/
def rLogits (n : Fin 32) (e : Fin 64) : EReal := ∑ k, rHidden V n k * rRouter V k e
def rScore (n : Fin 32) (e : Fin 64) : EReal := score (rLogits V n) e

theorem v0_at (n : Fin 32) (e : Fin 64) : ((res_main_v0 V : S32x1x64.Idx → EReal) (ix3 n 0 e) : EReal) = rLogits V n e := by
  unfold res_main_v0
  clean_types
  pointwise
  rfl

theorem v7_at (n : Fin 32) (e : Fin 64) :
    ((res_main_v7 V : S32x1x64.Idx → EReal) (ix3 n 0 e) : EReal) = Ideal.exp (rLogits V n e - mx (rLogits V n)) := by
  unfold res_main_v7
  clean_types
  pointwise
  simp only [v0_at, ofBits_neg_inf]
  rw [max_eq_right bot_le]
  rfl

theorem v11_at (n : Fin 32) (e : Fin 64) : ((res_main_v11 V : S32x1x64.Idx → EReal) (ix3 n 0 e) : EReal) = rScore V n e := by
  unfold res_main_v11
  clean_types
  pointwise
  simp only [v7_at]
  rfl

theorem v13_at (n : Fin 32) (e : Fin 64) : ((res_main_v13 V : S32x1x64.Idx → EReal) (ix3 n 0 e) : EReal) = rScore V n e + rBias V := by
  unfold res_main_v13
  clean_types
  pointwise
  simp only [v11_at]
  rfl

/-- The place of the first and of the second of a token's scores. -/
def place (n : Fin 32) (k : Fin 2) : Fin 64 :=
  sortedFrom (n := 64) (fun b c => decide (rScore V n c + rBias V < rScore V n b + rBias V)) ⟨k.val, by omega⟩

/-- A row sorted along its last axis, at a place. -/
theorem sort_at (gt : EReal → EReal → BitVec 1) (x : S32x1x64.Idx → EReal) (y : S32x1x64.Idx → BitVec 32) (n : Fin 32) (q : Fin 64) :
    (Host.sort2 S32x1x64 2 (fun l r => gt l.1 r.1) x y).2 (ix3 n 0 q)
      = y (ix3 n 0 (sortedFrom (n := 64) (fun b c => gt (x (ix3 n 0 b)) (x (ix3 n 0 c)) == 1#1) q)) := by
  have ha : ∀ e : Fin 64, Shape.Idx.along (s := S32x1x64) (ix3 n 0 q) (2 : Fin 3) e = ix3 n 0 e := by
    intro e
    funext b
    match b with
    | 0 => rfl
    | 1 => rfl
    | 2 => rfl
  have hx : (fun b c : Fin 64 => gt (x (ix3 n 0 b)) (x (ix3 n 0 c)) == 1#1)
      = fun b c => gt (x (Shape.Idx.along (s := S32x1x64) (ix3 n 0 q) (2 : Fin 3) b)) (x (Shape.Idx.along (s := S32x1x64) (ix3 n 0 q) (2 : Fin 3) c)) == 1#1 := by
    funext b c
    rw [ha, ha]
  rw [hx]
  exact congrArg y (ha _)

/-- The index of the `k`-th entry of a sorted row. -/
theorem topK_at (gt : EReal → EReal → BitVec 1) (x : S32x1x64.Idx → EReal) (n : Fin 32) (k : Fin 2) :
    (Host.topK S32x1x2 2 gt x sliceFits_S32x1x64_S32x1x2).2 (ix3 n 0 k)
      = BitVec.ofNat 32 (sortedFrom (n := 64) (fun b c => gt (x (ix3 n 0 b)) (x (ix3 n 0 c)) == 1#1) ⟨k.val, by omega⟩).val := by
  have hy : ∀ e : Fin 64, (fun i : S32x1x64.Idx => if hd : 2 < S32x1x64.rank then iotaInDim S32x1x64 32 ⟨2, hd⟩ i else 0#32) (ix3 n 0 e)
      = BitVec.ofNat 32 e.val := fun e => rfl
  unfold Host.topK extractStridedSlice
  dsimp only
  refine (congrArg (Host.sort2 S32x1x64 2 (fun l r => gt l.1 r.1) x _).2 (funext fun a => Fin.ext ?_)).trans
    ((sort_at gt x _ n ⟨k.val, by omega⟩).trans (hy _))
  match a with
  | 0 => exact Nat.zero_add _
  | 1 => rfl
  | 2 => exact Nat.zero_add _

theorem indices_at (n : Fin 32) (k : Fin 2) :
    ((res_main_indices V : S32x1x2.Idx → BitVec 32) (ix3 n 0 k) : BitVec 32) = BitVec.ofNat 32 (place V n k).val := by
  unfold res_main_indices
  have hb : ∀ b c : Fin 64, (FloatOps.cmpfTotal (F := Ideal) (φ := .f32) CmpDirection.gt ((res_main_v13 V : S32x1x64.Idx → EReal) (ix3 n 0 b))
      ((res_main_v13 V : S32x1x64.Idx → EReal) (ix3 n 0 c)) == 1#1) = decide (rScore V n c + rBias V < rScore V n b + rBias V) := by
    intro b c
    rw [v13_at, v13_at]
    show (BitVec.ofBool (decide (rScore V n c + rBias V < rScore V n b + rBias V)) == 1#1) = _
    cases decide (rScore V n c + rBias V < rScore V n b + rBias V) <;> rfl
  have hp : place V n k = sortedFrom (n := 64) (fun b c => FloatOps.cmpfTotal (F := Ideal) (φ := .f32) CmpDirection.gt
      ((res_main_v13 V : S32x1x64.Idx → EReal) (ix3 n 0 b)) ((res_main_v13 V : S32x1x64.Idx → EReal) (ix3 n 0 c)) == 1#1) ⟨k.val, by omega⟩ := by
    unfold place
    simp only [hb]
  rw [hp]
  exact topK_at _ _ n k

theorem v5_at (n : Fin 32) (k : Fin 2) :
    ((res_main_call0_v5 V : S32x2x1.Idx → BitVec 32) (ix3 n k 0) : BitVec 32) = BitVec.ofNat 32 (place V n k).val := by
  unfold res_main_call0_v5
  clean_types
  pointwise
  rw [indices_at, wrap_pos]

/-- The scores chosen. -/
theorem v14_at (n : Fin 32) (k : Fin 2) :
    ((res_main_v14 V : S32x1x2.Idx → EReal) (ix3 n 0 k) : EReal) = rScore V n (place V n k) := by
  unfold res_main_v14
  clean_types
  pointwise
  rw [gather_scores _ _ n k _ (v5_at V n k)]
  rw [v11_at]
  rw [show (Finset.univ : Finset (Fin 1)) = {0} from rfl, Finset.fold_singleton, v5_at, inside_pos]
  rfl

/-- The weights. -/
theorem v24_at (n : Fin 32) (k : Fin 2) :
    ((res_main_v24 V : S32x2.Idx → EReal) (ix2 n k) : EReal)
      = weight (rScore V n (place V n k)) (rScore V n (place V n 0)) (rScore V n (place V n 1)) := by
  unfold res_main_v24
  clean_types
  pointwise
  rw [Fin.sum_univ_two]
  simp only [v14_at]
  rfl

theorem v28_at (n : Fin 32) : ((res_main_v28 V : S32.Idx → BitVec 32) (ix1 n) : BitVec 32) = BitVec.ofNat 32 (place V n 0).val := by
  unfold res_main_v28 res_main_v25
  clean_types
  pointwise
  rw [indices_at]

theorem v62_at (n : Fin 32) : ((res_main_v62 V : S32.Idx → BitVec 32) (ix1 n) : BitVec 32) = BitVec.ofNat 32 (place V n 1).val := by
  unfold res_main_v62 res_main_v25
  clean_types
  pointwise
  rw [indices_at]

/-- The experts' indices as the gathers read them. -/
theorem index_at (w : S32.Idx → BitVec 32) (n : Fin 32) (p : Fin 64) (h : w (ix1 n) = BitVec.ofNat 32 p.val) :
    broadcastInDim S32x1 ![0] bcast_S32_S32x1_0
      (select (cmpi CmpIPredicate.slt w (broadcastInDim S32 ![] bcast_S_S32 (constantI S_ 32 0#32)))
        (addi w (broadcastInDim S32 ![] bcast_S_S32 (constantI S_ 32 64#32))) w) (ix2 n 0) = BitVec.ofNat 32 p.val := by
  pointwise
  rw [h, wrap_pos]

theorem v23_at (n : Fin 32) (k : Fin 1024) : ((res_main_v23 V : S32x1024.Idx → EReal) (ix2 n k) : EReal) = rHidden V n k := by
  unfold res_main_v23
  clean_types
  pointwise
  rfl

theorem v52_at (n : Fin 32) (i : Fin 512) :
    ((res_main_v52 V : S32x512.Idx → EReal) (ix2 n i) : EReal) = ∑ k, rHidden V n k * rGate V (place V n 0) k i := by
  unfold res_main_v52
  clean_types
  pointwise
  refine Finset.sum_congr rfl fun k _ => ?_
  rw [gather_in _ _ n k i _ (index_at _ n _ (v28_at V n)), v23_at]
  rfl

theorem v86_at (n : Fin 32) (i : Fin 512) :
    ((res_main_v86 V : S32x512.Idx → EReal) (ix2 n i) : EReal) = ∑ k, rHidden V n k * rGate V (place V n 1) k i := by
  unfold res_main_v86
  clean_types
  pointwise
  refine Finset.sum_congr rfl fun k _ => ?_
  rw [gather_in _ _ n k i _ (index_at _ n _ (v62_at V n)), v23_at]
  rfl

theorem v96_at (n : Fin 32) (i : Fin 2048) :
    ((res_main_v96 V : S32x1x2048.Idx → EReal) (ix3 n 0 i) : EReal) = ∑ k, rHidden V n k * rGateS V k i := by
  unfold res_main_v96
  clean_types
  pointwise
  rfl

/-! ## The result -/

def rExpert (n : Fin 32) (h : Fin 1024) (e : Fin 64) : EReal := gated (rHidden V n) (rGate V e) (rUp V e) fun i => rDown V e i h
def rShared (n : Fin 32) (h : Fin 1024) : EReal := gated (rHidden V n) (rGateS V) (rUpS V) fun i => rDownS V i h
def rWeight (n : Fin 32) (k : Fin 2) : EReal :=
  weight (rScore V n (place V n k)) (rScore V n (place V n 0)) (rScore V n (place V n 1))

/-- What the reference leaves at an entry, once its routing is read. -/
def rEntry (n : Fin 32) (h : Fin 1024) : EReal :=
  rExpert V n h (place V n 0) * rWeight V n 0 + rExpert V n h (place V n 1) * rWeight V n 1 + rShared V n h

/-- The reference's run: every entry of its result, its arguments unchanged. -/
theorem reference_run (m : (ℓ : Loc nD τ sig) → Buf (Elt Ideal) ℓ) (ρ : Dev nD → PrngReg) :
    θ_run (defs (F := Ideal)) (onTc (main (F := Ideal))) ⟨m, fun _ => 0, ρ⟩ fun r => ∀ c : Dev nD,
      (∀ (n : Fin 32) (h : Fin 1024), ((r.2.mem ((c.tc : Thread nD τ).loc main_v101) : S32x1x1024.Idx → EReal) (ix3 n 0 h) : EReal)
        = rEntry (StableHlo.launchContents m c) n h)
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8) := by
  refine (θ_run defs _ _).mono (fun r hr c => ⟨fun n h => ?_, (hr c).2⟩) (Cert.ReferenceIdeal.Value.run (F := Ideal) m ρ)
  rw [(hr c).1]
  clear hr
  generalize StableHlo.launchContents m c = V
  clean_types
  pointwise
  unfold rEntry rExpert rShared gated
  refine congrArg₂ (· + ·) (congrArg₂ (· + ·) (congrArg₂ (· * ·) ?_ (v24_at V n 0)) (congrArg₂ (· * ·) ?_ (v24_at V n 1))) ?_
  · refine Finset.sum_congr rfl fun i _ => ?_
    rw [gather_out _ _ n i h _ (index_at _ n _ (v28_at V n)), v52_at]
    refine congrArg₂ (· * ·) (congrArg₂ (· * ·) rfl (Finset.sum_congr rfl fun k _ => ?_)) rfl
    rw [gather_in _ _ n k i _ (index_at _ n _ (v28_at V n)), v23_at]
    rfl
  · refine Finset.sum_congr rfl fun i _ => ?_
    rw [gather_out _ _ n i h _ (index_at _ n _ (v62_at V n)), v86_at]
    refine congrArg₂ (· * ·) (congrArg₂ (· * ·) rfl (Finset.sum_congr rfl fun k _ => ?_)) rfl
    rw [gather_in _ _ n k i _ (index_at _ n _ (v62_at V n)), v23_at]
    rfl
  · refine Finset.sum_congr rfl fun i _ => ?_
    rw [v96_at]
    rfl

/-- The reference's entry, where the bias is a number. -/
theorem reference_entry (hb : rBias V ≠ ⊥) (ht : rBias V ≠ ⊤) (n : Fin 32) (h : Fin 1024) :
    Entry (score (rLogits V n)) (rExpert V n h) (rShared V n h) (rEntry V n h) := by
  have h0 : IsFirst (score (rLogits V n)) (place V n 0) := (sort_first fun e => rScore V n e + rBias V).shift hb ht
  have h1 : IsSecond (score (rLogits V n)) (place V n 0) (place V n 1) := (sort_second fun e => rScore V n e + rBias V).shift hb ht
  constructor
  · intro p r _ hp hr
    have e0 := hp.unique h0
    rw [← e0] at h1
    have e1 := hr.unique h1
    unfold rEntry rWeight
    rw [← e0, ← e1]
    exact add_comm _ _
  · intro hbad
    have hw : ∀ k, rWeight V n k = 0 := by
      intro k
      unfold rWeight rScore
      rw [hbad, hbad, hbad, weight_bot]
    unfold rEntry
    rw [hw, hw, mul_zero, mul_zero, add_zero, zero_add]

end Cert.Proof.Moe

end
-- ==== Proof.Equal.lean ====
/- The kernel's result and the reference's are equal at the ideal instance, where the bias is a number. -/
module

public import proofs.«01_k».proof.Proof.Ends
public import proofs.«01_k».proof.Proof.Reference

@[expose] public section

noncomputable section

namespace Cert.Proof.Moe

open Idealize.ShloMosaic Idealize.ShloMosaic.TcCoe Idealize.SL.Sem

set_option maxRecDepth 16384

theorem ofBits_pos_inf : Ideal.ofBits FTy.f32 0x7F800000#32 = ⊤ := by
  simp [Ideal.ofBits, Ideal.ieee]

/-- The precondition's word is one exactly where the bias is a number. -/
theorem bias_number (A0 A1 A2 A3 A4 A5 A6 A7 A8)
    (h : Cert.Pre_bias_finite.fn (F := Ideal) A0 A1 A2 A3 A4 A5 A6 A7 A8 = fun _ => 1#1) :
    (A2 ix0 : EReal) ≠ ⊥ ∧ (A2 ix0 : EReal) ≠ ⊤ := by
  have h0 : IntOp.andi (BitVec.ofBool (decide (Ideal.ofBits FTy.f32 0xFF800000#32 < (A2 ix0 : EReal))))
      (BitVec.ofBool (decide ((A2 ix0 : EReal) < Ideal.ofBits FTy.f32 0x7F800000#32))) = 1#1 := congrFun h ix0
  rw [ofBits_neg_inf, ofBits_pos_inf] at h0
  constructor
  · intro hb
    rw [hb, decide_eq_false (lt_irrefl _)] at h0
    revert h0
    cases decide ((⊥ : EReal) < ⊤) <;> decide
  · intro ht
    rw [ht, decide_eq_false (lt_irrefl (⊤ : EReal))] at h0
    revert h0
    cases decide ((⊥ : EReal) < ⊤) <;> decide

theorem algebraic : Cert.algebraic_KernelIdeal_ReferenceIdeal_pre_bias_finite := by
  intro m g m' g' hpre hargs
  refine ⟨fun c => at' (V10 m (routed m) c) Cert.KernelIdeal.main_v9,
    (θ_run Cert.KernelIdeal.defs _ _).mono (fun r hr c => hr.1 c) (kernel_run m g),
    (θ_run Cert.ReferenceIdeal.defs _ _).mono (fun r hr c => ⟨?_, (hr c).2⟩) (reference_run m' g')⟩
  obtain ⟨a0, a1, a2, a3, a4, a5, a6, a7, a8⟩ := hargs c
  have hv := (hr c).1
  have hbias := bias_number _ _ _ _ _ _ _ _ _ (hpre c)
  generalize hV : StableHlo.launchContents m' c = V at hv
  have e0 : rHidden V = hidden m c := by subst hV; funext n k; exact congrFun a0 (ix3 n 0 k)
  have e1 : rRouter V = router m c := by subst hV; funext k e; exact congrFun a1 (ix2 k e)
  have e3 : rGate V = gateW m c := by subst hV; funext e k i; exact congrFun a3 (ix3 e k i)
  have e4 : rUp V = upW m c := by subst hV; funext e k i; exact congrFun a4 (ix3 e k i)
  have e5 : rDown V = downW m c := by subst hV; funext e i h; exact congrFun a5 (ix3 e i h)
  have e6 : rGateS V = gateS m c := by subst hV; funext k i; exact congrFun a6 (ix2 k i)
  have e7 : rUpS V = upS m c := by subst hV; funext k i; exact congrFun a7 (ix2 k i)
  have e8 : rDownS V = downS m c := by subst hV; funext i h; exact congrFun a8 (ix2 i h)
  have hb : rBias V ≠ ⊥ ∧ rBias V ≠ ⊤ := by
    have e2 : rBias V = m ((c.tc : Thread Cert.KernelIdeal.nD Cert.KernelIdeal.τ).loc Cert.KernelIdeal.main_arg2) ix0 := by
      subst hV; exact congrFun a2 ix0
    rw [e2]; exact hbias
  have hent : ∀ (n : Fin 32) (h : Fin 1024),
      rEntry V n h = (at' (V10 m (routed m) c) Cert.KernelIdeal.main_v9 : Cert.KernelIdeal.S32x1x1024.Idx → EReal) (ix3 n 0 h) := by
    intro n h
    have hR := reference_entry V hb.1 hb.2 n h
    have hl : rLogits V n = logits m c n := by unfold rLogits logits; rw [e0, e1]
    have hx : rExpert V n h = expertE m c n h := by unfold rExpert expertE; rw [e0, e3, e4, e5]
    have hs : rShared V n h = sharedE m c n h := by unfold rShared sharedE; rw [e0, e6, e7, e8]
    rw [hl, hx, hs] at hR
    exact hR.unique (kernel_entry m c n h)
  have hfun : ∀ f f' : Cert.KernelIdeal.S32x1x1024.Idx → EReal,
      (∀ (n : Fin 32) (h : Fin 1024), f (ix3 n 0 h) = f' (ix3 n 0 h)) → f = f' := by
    intro f f' hff
    funext j
    have hj : j = ix3 (j 0) 0 (j 2) := by
      funext a
      match a with
      | 0 => rfl
      | 1 => exact Subsingleton.elim (α := Fin 1) _ _
      | 2 => rfl
    rw [hj]
    exact hff _ _
  exact hfun _ _ fun n h => (hv n h).trans (hent n h)

end Cert.Proof.Moe

end
-- ==== Proof.lean ====
/- The certificate: the kernel's and the reference's frames at the ideal instance, and their equality there. -/
module

public import proofs.«01_k».proof.Defs
public import proofs.«01_k».proof.Proof.Gen.KernelIdeal
public import proofs.«01_k».proof.Proof.Gen.ReferenceIdeal
public import proofs.«01_k».proof.Proof.Gen.Pre_bias_finite
public import proofs.«01_k».proof.Proof.Ends
public import proofs.«01_k».proof.Proof.Equal

@[expose] public section

noncomputable section

namespace Cert.Proof

/-- Everything claimed. -/
theorem claim : Cert.Claim :=
  ⟨Cert.KernelIdeal.Gen.facts, Cert.ReferenceIdeal.Gen.facts, Cert.Pre_bias_finite.Gen.facts,
    Moe.frame_kernel, Moe.frame_kernel_pre, Moe.frame_reference, Moe.frame_reference_pre, Moe.algebraic⟩

end Cert.Proof

end
